-- ==== Defs.lean ====
def Pre_Kernel [hPre_slots_in_range : Cert.Pre_slots_in_range.Facts] (m : (ℓ : Loc Cert.Kernel.nD Cert.Kernel.τ Cert.Kernel.sig) → Buf (Elt Bits) ℓ) : Prop :=
  ∀ c : Dev Cert.Kernel.nD,
    (Cert.Pre_slots_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_slots_in_range : Cert.Pre_slots_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_slots_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_in_range [hPre_slots_in_range : Cert.Pre_slots_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_slots_in_range : Cert.Pre_slots_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_slots_in_range [hReferenceIdeal : Cert.ReferenceIdeal.Facts] [hPre_slots_in_range : Cert.Pre_slots_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_slots_in_range : Cert.Pre_slots_in_range.Facts),
    quiescent_Kernel (hKernel := hKernel) (hPre_slots_in_range := hPre_slots_in_range)
    ∧ quiescent_KernelIdeal (hKernelIdeal := hKernelIdeal) (hPre_slots_in_range := hPre_slots_in_range)
    ∧ quiescent_ReferenceIdeal (hReferenceIdeal := hReferenceIdeal)
    ∧ quiescent_ReferenceIdeal_pre_slots_in_range (hReferenceIdeal := hReferenceIdeal) (hPre_slots_in_range := hPre_slots_in_range)
    ∧ preserves_Kernel_KernelIdeal
    ∧ algebraic_KernelIdeal_ReferenceIdeal (hKernelIdeal := hKernelIdeal) (hReferenceIdeal := hReferenceIdeal) (hPre_slots_in_range := hPre_slots_in_range)
-- ==== Pre_slots_in_range.lean ====
abbrev S16384x26 : Shape := ⟨2, ![16384, 26]⟩
abbrev S16384x128 : Shape := ⟨2, ![16384, 128]⟩
abbrev S16384x1 : Shape := ⟨2, ![16384, 1]⟩
abbrev S16384 : Shape := ⟨1, ![16384]⟩
abbrev S_ : Shape := ⟨0, ![]⟩

class Facts : Prop where
  slices_S16384x26_S16384x1_0_0 : S16384x26.Slices ![0, 0] S16384x1
  shapeCasts_S16384x1_S16384 : S16384x1.ShapeCasts S16384
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x26 .f32) (main_arg1 : FVec F S16384x128 .f32) : IVec S_ 1 :=
  let main_v0 : FVec F S16384x1 .f32 := (extractStridedSlice S16384x1 ![0, 0] · slices_S16384x26_S16384x1_0_0) main_arg0
  let main_v1 : FVec F S16384 .f32 := shapeCast S16384 main_v0 shapeCasts_S16384x1_S16384
  let main_v2 : IVec S16384 32 := fptosi 32 main_v1
  let main_c : IVec S_ 32 := constantI S_ 32 0#32
  let main_v3 : IVec S16384 32 := broadcastInDim S16384 ![] bcast_S_S16384 main_c
  let main_v4 : IVec S16384 1 := cmpi .sge main_v2 main_v3
  let main_c_0 : IVec S_ 32 := constantI S_ 32 128#32
  let main_v5 : IVec S16384 32 := broadcastInDim S16384 ![] bcast_S_S16384 main_c_0
  let main_v6 : IVec S16384 1 := cmpi .slt main_v2 main_v5
  let main_v7 : IVec S16384 1 := andi main_v4 main_v6
  let main_c_1 : IVec S_ 1 := constantI S_ 1 1#1
  let main_v8 : IVec S_ 1 := (fun x v => Host.reduce IntOp.andi x v reducesTo_S16384_S_d0 h_S_) main_v7 main_c_1
  main_v8
-- ==== Kernel.lean ====
abbrev S16384x26 : Shape := ⟨2, ![16384, 26]⟩
abbrev S16384x128 : Shape := ⟨2, ![16384, 128]⟩
abbrev S425984 : Shape := ⟨1, ![425984]⟩
abbrev S2097152 : Shape := ⟨1, ![2097152]⟩
abbrev S32x4x128 : Shape := ⟨3, ![32, 4, 128]⟩
abbrev S13312 : Shape := ⟨1, ![13312]⟩
abbrev S4x128 : Shape := ⟨2, ![4, 128]⟩
abbrev S_ : Shape := ⟨0, ![]⟩
abbrev S16 : Shape := ⟨1, ![16]⟩
abbrev S1x16 : Shape := ⟨2, ![1, 16]⟩
abbrev S1x128 : Shape := ⟨2, ![1, 128]⟩
abbrev S128 : Shape := ⟨1, ![128]⟩
abbrev S1x4x128 : Shape := ⟨3, ![1, 4, 128]⟩
abbrev S16384 : Shape := ⟨1, ![16384]⟩

abbrev nBuf : Table → Nat
  | .hbm => 6
  | .local .scVector .vmem => 3
  | _ => 0

abbrev bufTy : (tb : Table) → Fin (nBuf tb) → BufTy
  | .hbm, ⟨0, _⟩ => ⟨S16384x26, .f32⟩
  | .hbm, ⟨1, _⟩ => ⟨S16384x128, .f32⟩
  | .hbm, ⟨2, _⟩ => ⟨S425984, .f32⟩
  | .hbm, ⟨3, _⟩ => ⟨S2097152, .f32⟩
  | .hbm, ⟨4, _⟩ => ⟨S32x4x128, .f32⟩
  | .hbm, ⟨5, _⟩ => ⟨S16384, .f32⟩
  | .local .scVector .vmem, ⟨0, _⟩ => ⟨S13312, .f32⟩
  | .local .scVector .vmem, ⟨1, _⟩ => ⟨S4x128, .i32⟩
  | .local .scVector .vmem, ⟨2, _⟩ => ⟨S4x128, .f32⟩
  | _, _ => ⟨S16384x26, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c26_i32 : BitVec 32 := 26#32
  let v3 : BitVec 32 := Scalar.muli v2 c26_i32
  ![v3.toNat]

def k0_chk1 (v8 : IVec S16 32) : Prop :=
  (∀ a x, ((![v8] : Fin 1 → IVec S16 32) a x).toNat < S13312.size a)
theorem k0_idx1_inb : ∀ (v8 : IVec S16 32) (k0_hw1 : k0_chk1 v8), ∀ a x, ((![v8] : Fin 1 → IVec S16 32) a x).toNat < S13312.size a := fun v8 k0_hw1 => k0_hw1

def k0_chk2 (v22 : IVec S16 32) : Prop :=
  (∀ a x, ((![v22] : Fin 1 → IVec S16 32) a x).toNat < S13312.size a)
theorem k0_idx2_inb : ∀ (v22 : IVec S16 32) (k0_hw2 : k0_chk2 v22), ∀ a x, ((![v22] : Fin 1 → IVec S16 32) a x).toNat < S13312.size a := fun v22 k0_hw2 => k0_hw2

def k0_chk3 (v36 : IVec S16 32) : Prop :=
  (∀ a x, ((![v36] : Fin 1 → IVec S16 32) a x).toNat < S13312.size a)
theorem k0_idx3_inb : ∀ (v36 : IVec S16 32) (k0_hw3 : k0_chk3 v36), ∀ a x, ((![v36] : Fin 1 → IVec S16 32) a x).toNat < S13312.size a := fun v36 k0_hw3 => k0_hw3

def k0_chk4 (v50 : IVec S16 32) : Prop :=
  (∀ a x, ((![v50] : Fin 1 → IVec S16 32) a x).toNat < S13312.size a)
theorem k0_idx4_inb : ∀ (v50 : IVec S16 32) (k0_hw4 : k0_chk4 v50), ∀ a x, ((![v50] : Fin 1 → IVec S16 32) a x).toNat < S13312.size a := fun v50 k0_hw4 => k0_hw4

def k0_chk5 (v64 : IVec S16 32) : Prop :=
  (∀ a x, ((![v64] : Fin 1 → IVec S16 32) a x).toNat < S13312.size a)
theorem k0_idx5_inb : ∀ (v64 : IVec S16 32) (k0_hw5 : k0_chk5 v64), ∀ a x, ((![v64] : Fin 1 → IVec S16 32) a x).toNat < S13312.size a := fun v64 k0_hw5 => k0_hw5

def k0_chk6 (v78 : IVec S16 32) : Prop :=
  (∀ a x, ((![v78] : Fin 1 → IVec S16 32) a x).toNat < S13312.size a)
theorem k0_idx6_inb : ∀ (v78 : IVec S16 32) (k0_hw6 : k0_chk6 v78), ∀ a x, ((![v78] : Fin 1 → IVec S16 32) a x).toNat < S13312.size a := fun v78 k0_hw6 => k0_hw6

def k0_chk7 (v92 : IVec S16 32) : Prop :=
  (∀ a x, ((![v92] : Fin 1 → IVec S16 32) a x).toNat < S13312.size a)
theorem k0_idx7_inb : ∀ (v92 : IVec S16 32) (k0_hw7 : k0_chk7 v92), ∀ a x, ((![v92] : Fin 1 → IVec S16 32) a x).toNat < S13312.size a := fun v92 k0_hw7 => k0_hw7

def k0_chk8 (v106 : IVec S16 32) : Prop :=
  (∀ a x, ((![v106] : Fin 1 → IVec S16 32) a x).toNat < S13312.size a)
theorem k0_idx8_inb : ∀ (v106 : IVec S16 32) (k0_hw8 : k0_chk8 v106), ∀ a x, ((![v106] : Fin 1 → IVec S16 32) a x).toNat < S13312.size a := fun v106 k0_hw8 => k0_hw8

def k0_chk9 (v120 : IVec S16 32) : Prop :=
  (∀ a x, ((![v120] : Fin 1 → IVec S16 32) a x).toNat < S13312.size a)
theorem k0_idx9_inb : ∀ (v120 : IVec S16 32) (k0_hw9 : k0_chk9 v120), ∀ a x, ((![v120] : Fin 1 → IVec S16 32) a x).toNat < S13312.size a := fun v120 k0_hw9 => k0_hw9

def k0_chk10 (v134 : IVec S16 32) : Prop :=
  (∀ a x, ((![v134] : Fin 1 → IVec S16 32) a x).toNat < S13312.size a)
theorem k0_idx10_inb : ∀ (v134 : IVec S16 32) (k0_hw10 : k0_chk10 v134), ∀ a x, ((![v134] : Fin 1 → IVec S16 32) a x).toNat < S13312.size a := fun v134 k0_hw10 => k0_hw10

def k0_chk11 (v148 : IVec S16 32) : Prop :=
  (∀ a x, ((![v148] : Fin 1 → IVec S16 32) a x).toNat < S13312.size a)
theorem k0_idx11_inb : ∀ (v148 : IVec S16 32) (k0_hw11 : k0_chk11 v148), ∀ a x, ((![v148] : Fin 1 → IVec S16 32) a x).toNat < S13312.size a := fun v148 k0_hw11 => k0_hw11

def k0_chk12 (v162 : IVec S16 32) : Prop :=
  (∀ a x, ((![v162] : Fin 1 → IVec S16 32) a x).toNat < S13312.size a)
theorem k0_idx12_inb : ∀ (v162 : IVec S16 32) (k0_hw12 : k0_chk12 v162), ∀ a x, ((![v162] : Fin 1 → IVec S16 32) a x).toNat < S13312.size a := fun v162 k0_hw12 => k0_hw12

def k0_chk13 (v176 : IVec S16 32) : Prop :=
  (∀ a x, ((![v176] : Fin 1 → IVec S16 32) a x).toNat < S13312.size a)
theorem k0_idx13_inb : ∀ (v176 : IVec S16 32) (k0_hw13 : k0_chk13 v176), ∀ a x, ((![v176] : Fin 1 → IVec S16 32) a x).toNat < S13312.size a := fun v176 k0_hw13 => k0_hw13

def k0_chk14 (v190 : IVec S16 32) : Prop :=
  (∀ a x, ((![v190] : Fin 1 → IVec S16 32) a x).toNat < S13312.size a)
theorem k0_idx14_inb : ∀ (v190 : IVec S16 32) (k0_hw14 : k0_chk14 v190), ∀ a x, ((![v190] : Fin 1 → IVec S16 32) a x).toNat < S13312.size a := fun v190 k0_hw14 => k0_hw14

def k0_chk15 (v204 : IVec S16 32) : Prop :=
  (∀ a x, ((![v204] : Fin 1 → IVec S16 32) a x).toNat < S13312.size a)
theorem k0_idx15_inb : ∀ (v204 : IVec S16 32) (k0_hw15 : k0_chk15 v204), ∀ a x, ((![v204] : Fin 1 → IVec S16 32) a x).toNat < S13312.size a := fun v204 k0_hw15 => k0_hw15

def k0_chk16 (v218 : IVec S16 32) : Prop :=
  (∀ a x, ((![v218] : Fin 1 → IVec S16 32) a x).toNat < S13312.size a)
theorem k0_idx16_inb : ∀ (v218 : IVec S16 32) (k0_hw16 : k0_chk16 v218), ∀ a x, ((![v218] : Fin 1 → IVec S16 32) a x).toNat < S13312.size a := fun v218 k0_hw16 => k0_hw16

def k0_chk17 (v232 : IVec S16 32) : Prop :=
  (∀ a x, ((![v232] : Fin 1 → IVec S16 32) a x).toNat < S13312.size a)
theorem k0_idx17_inb : ∀ (v232 : IVec S16 32) (k0_hw17 : k0_chk17 v232), ∀ a x, ((![v232] : Fin 1 → IVec S16 32) a x).toNat < S13312.size a := fun v232 k0_hw17 => k0_hw17

def k0_chk18 (v246 : IVec S16 32) : Prop :=
  (∀ a x, ((![v246] : Fin 1 → IVec S16 32) a x).toNat < S13312.size a)
theorem k0_idx18_inb : ∀ (v246 : IVec S16 32) (k0_hw18 : k0_chk18 v246), ∀ a x, ((![v246] : Fin 1 → IVec S16 32) a x).toNat < S13312.size a := fun v246 k0_hw18 => k0_hw18

def k0_chk19 (v260 : IVec S16 32) : Prop :=
  (∀ a x, ((![v260] : Fin 1 → IVec S16 32) a x).toNat < S13312.size a)
theorem k0_idx19_inb : ∀ (v260 : IVec S16 32) (k0_hw19 : k0_chk19 v260), ∀ a x, ((![v260] : Fin 1 → IVec S16 32) a x).toNat < S13312.size a := fun v260 k0_hw19 => k0_hw19

def k0_chk20 (v274 : IVec S16 32) : Prop :=
  (∀ a x, ((![v274] : Fin 1 → IVec S16 32) a x).toNat < S13312.size a)
theorem k0_idx20_inb : ∀ (v274 : IVec S16 32) (k0_hw20 : k0_chk20 v274), ∀ a x, ((![v274] : Fin 1 → IVec S16 32) a x).toNat < S13312.size a := fun v274 k0_hw20 => k0_hw20

def k0_chk21 (v288 : IVec S16 32) : Prop :=
  (∀ a x, ((![v288] : Fin 1 → IVec S16 32) a x).toNat < S13312.size a)
theorem k0_idx21_inb : ∀ (v288 : IVec S16 32) (k0_hw21 : k0_chk21 v288), ∀ a x, ((![v288] : Fin 1 → IVec S16 32) a x).toNat < S13312.size a := fun v288 k0_hw21 => k0_hw21

def k0_chk22 (v302 : IVec S16 32) : Prop :=
  (∀ a x, ((![v302] : Fin 1 → IVec S16 32) a x).toNat < S13312.size a)
theorem k0_idx22_inb : ∀ (v302 : IVec S16 32) (k0_hw22 : k0_chk22 v302), ∀ a x, ((![v302] : Fin 1 → IVec S16 32) a x).toNat < S13312.size a := fun v302 k0_hw22 => k0_hw22

def k0_chk23 (v316 : IVec S16 32) : Prop :=
  (∀ a x, ((![v316] : Fin 1 → IVec S16 32) a x).toNat < S13312.size a)
theorem k0_idx23_inb : ∀ (v316 : IVec S16 32) (k0_hw23 : k0_chk23 v316), ∀ a x, ((![v316] : Fin 1 → IVec S16 32) a x).toNat < S13312.size a := fun v316 k0_hw23 => k0_hw23

def k0_chk24 (v330 : IVec S16 32) : Prop :=
  (∀ a x, ((![v330] : Fin 1 → IVec S16 32) a x).toNat < S13312.size a)
theorem k0_idx24_inb : ∀ (v330 : IVec S16 32) (k0_hw24 : k0_chk24 v330), ∀ a x, ((![v330] : Fin 1 → IVec S16 32) a x).toNat < S13312.size a := fun v330 k0_hw24 => k0_hw24

def k0_chk25 (v344 : IVec S16 32) : Prop :=
  (∀ a x, ((![v344] : Fin 1 → IVec S16 32) a x).toNat < S13312.size a)
theorem k0_idx25_inb : ∀ (v344 : IVec S16 32) (k0_hw25 : k0_chk25 v344), ∀ a x, ((![v344] : Fin 1 → IVec S16 32) a x).toNat < S13312.size a := fun v344 k0_hw25 => k0_hw25

def k0_chk26 (v358 : IVec S16 32) : Prop :=
  (∀ a x, ((![v358] : Fin 1 → IVec S16 32) a x).toNat < S13312.size a)
theorem k0_idx26_inb : ∀ (v358 : IVec S16 32) (k0_hw26 : k0_chk26 v358), ∀ a x, ((![v358] : Fin 1 → IVec S16 32) a x).toNat < S13312.size a := fun v358 k0_hw26 => k0_hw26

def k0_chk27 (v372 : IVec S16 32) : Prop :=
  (∀ a x, ((![v372] : Fin 1 → IVec S16 32) a x).toNat < S13312.size a)
theorem k0_idx27_inb : ∀ (v372 : IVec S16 32) (k0_hw27 : k0_chk27 v372), ∀ a x, ((![v372] : Fin 1 → IVec S16 32) a x).toNat < S13312.size a := fun v372 k0_hw27 => k0_hw27

def k0_chk28 (v386 : IVec S16 32) : Prop :=
  (∀ a x, ((![v386] : Fin 1 → IVec S16 32) a x).toNat < S13312.size a)
theorem k0_idx28_inb : ∀ (v386 : IVec S16 32) (k0_hw28 : k0_chk28 v386), ∀ a x, ((![v386] : Fin 1 → IVec S16 32) a x).toNat < S13312.size a := fun v386 k0_hw28 => k0_hw28

def k0_chk29 (v400 : IVec S16 32) : Prop :=
  (∀ a x, ((![v400] : Fin 1 → IVec S16 32) a x).toNat < S13312.size a)
theorem k0_idx29_inb : ∀ (v400 : IVec S16 32) (k0_hw29 : k0_chk29 v400), ∀ a x, ((![v400] : Fin 1 → IVec S16 32) a x).toNat < S13312.size a := fun v400 k0_hw29 => k0_hw29

def k0_chk30 (v414 : IVec S16 32) : Prop :=
  (∀ a x, ((![v414] : Fin 1 → IVec S16 32) a x).toNat < S13312.size a)
theorem k0_idx30_inb : ∀ (v414 : IVec S16 32) (k0_hw30 : k0_chk30 v414), ∀ a x, ((![v414] : Fin 1 → IVec S16 32) a x).toNat < S13312.size a := fun v414 k0_hw30 => k0_hw30

def k0_chk31 (v428 : IVec S16 32) : Prop :=
  (∀ a x, ((![v428] : Fin 1 → IVec S16 32) a x).toNat < S13312.size a)
theorem k0_idx31_inb : ∀ (v428 : IVec S16 32) (k0_hw31 : k0_chk31 v428), ∀ a x, ((![v428] : Fin 1 → IVec S16 32) a x).toNat < S13312.size a := fun v428 k0_hw31 => k0_hw31

def k0_chk32 (v442 : IVec S16 32) : Prop :=
  (∀ a x, ((![v442] : Fin 1 → IVec S16 32) a x).toNat < S13312.size a)
theorem k0_idx32_inb : ∀ (v442 : IVec S16 32) (k0_hw32 : k0_chk32 v442), ∀ a x, ((![v442] : Fin 1 → IVec S16 32) a x).toNat < S13312.size a := fun v442 k0_hw32 => k0_hw32
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_317_r1 : BitVec 32 := 0#32
  let c0_i32_318_r1 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S16384x128 : Shape := ⟨2, ![16384, 128]⟩
abbrev S16384x1 : Shape := ⟨2, ![16384, 1]⟩
abbrev S16384 : Shape := ⟨1, ![16384]⟩
abbrev S_ : Shape := ⟨0, ![]⟩
abbrev S16384x2 : Shape := ⟨2, ![16384, 2]⟩

abbrev nBuf : Space → Nat
  | .hbm => 31
  | .vmem => 0
  | .smem => 0
  | _ => 0

abbrev bufTy : (tb : Table) → Fin (tcTables nBuf tb) → BufTy
  | .hbm, ⟨0, _⟩ => ⟨S16384x26, .f32⟩
  | .hbm, ⟨1, _⟩ => ⟨S16384x128, .f32⟩
  | .hbm, ⟨2, _⟩ => ⟨S16384x1, .f32⟩
  | .hbm, ⟨3, _⟩ => ⟨S16384, .f32⟩
  | .hbm, ⟨4, _⟩ => ⟨S16384, .i32⟩
  | .hbm, ⟨5, _⟩ => ⟨S16384, .i32⟩
  | .hbm, ⟨6, _⟩ => ⟨S_, .f32⟩
  | .hbm, ⟨7, _⟩ => ⟨S16384x128, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384x1, .i32⟩
  | .hbm, ⟨23, _⟩ => ⟨S16384x1, .i32⟩
  | .hbm, ⟨24, _⟩ => ⟨S16384x2, .i32⟩
  | .hbm, ⟨25, _⟩ => ⟨S_, .f32⟩
  | .hbm, ⟨26, _⟩ => ⟨S16384, .f32⟩
  | .hbm, ⟨27, _⟩ => ⟨S16384x128, .f32⟩
  | .hbm, ⟨28, _⟩ => ⟨S16384x128, .f32⟩
  | .hbm, ⟨29, _⟩ => ⟨S_, .f32⟩
  | .hbm, ⟨30, _⟩ => ⟨S16384, .f32⟩
  | _, _ => ⟨S16384x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.KernelIdeal.Body.lean ====
/-
  The kernel's body told by its steps: the printed body of the gather kernel is a straight line of some
  three hundred memory operations, and this module shows that it is, by definition, five short loops over
  symbolic steps: fetch the tile's rows of the slot table, fill 32 chunks of the offset list, start four
  indirect gathers, wait for them, scale 32 chunks of the gathered words, and copy the result out.
-/
module

public import proofs.«01_k».proof.Proof.Gen.KernelIdeal.Skeleton

@[expose] public section

noncomputable section

namespace Cert.KernelIdeal.Tile

open Cert.KernelIdeal Cert.KernelIdeal.Gen
open Idealize.ShloMosaic Idealize.SL.Sem

variable {F : FTy → Type} [FloatOps F]

/-- The programs a tile of grid point `i` runs. -/
abbrev TProg (F : FTy → Type) (i : grid0.Coords) (α : Type) : Type 1 :=
  Prog (TpuEff nD τ sig (Elt F) Λ₀ (.scVector ((i 0).castLE hcore0) ((i 1).castLE hsub0))) α

/-- Run `f k`, `f (k + 1)`, …, `n` steps in all. -/
def steps {i : grid0.Coords} (f : ℕ → TProg F i PUnit) : ℕ → ℕ → TProg F i PUnit
  | _, 0 => pure ⟨⟩
  | k, n + 1 => f k >>= fun _ => steps f (k + 1) n

/-! ## The chunks of the offset list and of the gathered words -/

theorem chunk_inb (c : ℕ) : ∀ a, (![c / 8 % 4, 16 * (c % 8)] : Fin 2 → Nat) a + S1x16.size a ≤ S4x128.size a := by
  intro a; fin_cases a
  · show c / 8 % 4 + 1 ≤ 4; omega
  · show 16 * (c % 8) + 16 ≤ 128; omega

/-- Chunk `c` of a tile's four rows of 128 words: sixteen words of row `c / 8`. -/
abbrev chunk (c : ℕ) : Rect S4x128 := Rect.unit (s := S4x128) ![c / 8 % 4, 16 * (c % 8)] S1x16.size (chunk_inb c)

/-- The first of the 512 rows that the tile of grid point `i` serves, as the kernel computes it. -/
def baseWord (i : grid0.Coords) : BitVec 32 :=
  Scalar.muli (Scalar.addi (Scalar.muli (BitVec.ofNat 32 (i 1).val) 2#32) (BitVec.ofNat 32 (i 0).val)) 512#32

/-- The places `16 c`, …, `16 c + 15` of chunk `c` among the tile's 512 rows. -/
def laneWords (c : ℕ) : IVec S16 32 :=
  addi (iota .scVector S16 32 [0] iota_S16_d0_w32_scVector) (broadcast S16 (BitVec.ofNat 32 (16 * c)))

/-- Where the slots of chunk `c` lie in the tile's rows of the slot table: column 0 of rows of 26. -/
def slotAt (c : ℕ) : IVec S16 32 := muli (laneWords c) (broadcast S16 26#32)

/-- The offsets of chunk `c`: each row's start in the flat table plus the slot read for it. -/
def offsetWords (i : grid0.Coords) (c : ℕ) (v : Vec F S16 .f32) : IVec S16 32 :=
  addi (muli (addi (broadcast S16 (baseWord i)) (laneWords c)) (broadcast S16 128#32)) (fptosi 32 v)

/-- Fill chunk `c` of the offset list. -/
def fillChunk (i : grid0.Coords) (arg5 : Memref sig .scVector .vmem S13312 .f32) (arg6 : Memref sig .scVector .vmem S4x128 .i32) (c : ℕ) : TProg F i PUnit := do
  have h : k0_chk1 (slotAt c) := (← Prog.lift (TpuEff.assume (k0_chk1 (slotAt c)) (k0_chk1.dec (slotAt c)))).down
  let v : Vec F S16 .f32 ← SparseCore.vectorLoadIdx arg5 ![slotAt c] h (View.loads_vmem h_S13312)
  let _w : Vec F S1x16 .i32 ← Prog.lift (.load arg6 (chunk c).toLoadRect (View.loadsAt_vmem h_S1x16))
  Prog.lift (.store arg6 (chunk c) (shapeCast S1x16 (offsetWords i c v) shapeCasts_S16_S1x16) Finset.univ (View.stores_vmem_bits_univ h_S1x16 rfl) (.inl rfl))

theorem row_inb (j : ℕ) : ∀ a, (![j % 4, 0] : Fin 2 → Nat) a + S1x128.size a ≤ S4x128.size a := by
  intro a; fin_cases a
  · show j % 4 + 1 ≤ 4; omega
  · show 0 + 128 ≤ 128; omega

/-- Row `j` of a tile's four rows of 128 words. -/
abbrev rowRect (j : ℕ) : Rect S4x128 := Rect.unit (s := S4x128) ![j % 4, 0] S1x128.size (row_inb j)
/-- Row `j` of such a buffer as a vector of 128 words. -/
abbrev rowOf {e : EltTy} (arg : Memref sig .scVector .vmem S4x128 e) (j : ℕ) : Memref sig .scVector .vmem S128 e :=
  (arg.slice (rowRect j) (fun _ => rfl)).squeeze S128 squeezes_S1x128_S128
/-- The flat table as the gathers name it: its whole range. -/
abbrev tableOf (arg3 : Memref sig .scVector .hbm S2097152 .f32) : Memref sig .scVector .hbm S2097152 .f32 :=
  arg3.slice (Rect.unit (s := S2097152) ![0] S2097152.size inb_S2097152_S2097152_0) (fun _ => rfl)

/-- Start the indirect gather of row `j`. -/
def startGather (i : grid0.Coords) (arg3 : Memref sig .scVector .hbm S2097152 .f32) (arg6 : Memref sig .scVector .vmem S4x128 .i32)
    (arg7 : Memref sig .scVector .vmem S4x128 .f32) (arg8 : DmaSems sig S_) (j : ℕ) : TProg F i PUnit :=
  SparseCore.enqueueIndirectGather rfl (tableOf arg3) (rowOf arg7 j) gathers_S2097152_S128 (rowOf arg6 j) rfl arg8.sem (View.wordExact_bits rfl) rfl (Or.inl rfl)

/-- Wait for the indirect gather of row `j`. -/
def awaitGather (i : grid0.Coords) (arg3 : Memref sig .scVector .hbm S2097152 .f32)
    (arg7 : Memref sig .scVector .vmem S4x128 .f32) (arg8 : DmaSems sig S_) (j : ℕ) : TProg F i PUnit :=
  SparseCore.waitIndirectGather arg8.sem (tableOf arg3) (rowOf arg7 j) (View.wordExact_bits rfl) ((View.wordExact_bits rfl).reshape _ _)

/-- Sixteen gathered words times the kernel's factor. -/
def scaledWords (v : Vec F S1x16 .f32) : FVec F S16 .f32 :=
  mulf (shapeCast S16 v shapeCasts_S1x16_S16) (broadcast S16 (Scalar.ofBits .f32 0x3F7FBE77#32))

/-- Scale chunk `c` of the gathered words. -/
def scaleChunk (i : grid0.Coords) (arg7 : Memref sig .scVector .vmem S4x128 .f32) (c : ℕ) : TProg F i PUnit := do
  let v : Vec F S1x16 .f32 ← Prog.lift (.load arg7 (chunk c).toLoadRect (View.loadsAt_vmem h_S1x16))
  let _w : Vec F S1x16 .f32 ← Prog.lift (.load arg7 (chunk c).toLoadRect (View.loadsAt_vmem h_S1x16))
  Prog.lift (.store arg7 (chunk c) (shapeCast S1x16 (scaledWords v) shapeCasts_S16_S1x16) Finset.univ (View.stores_vmem_bits_univ h_S1x16 rfl) (.inl rfl))

/-! ## The body -/

/-- Fetch the tile's 512 rows of the slot table. -/
def fetchSlots (i : grid0.Coords) (arg2 : Memref sig .scVector .hbm S425984 .f32) (arg5 : Memref sig .scVector .vmem S13312 .f32) (harg5 : arg5.IsWhole)
    (r0 : DmaSems sig S_) : TProg F i PUnit := do
  Prog.lift (.enqueueDma (arg2.slice (Rect.unit (s := S425984) (k0_off1 i) S13312.size (k0_off1_inb i)) (fun _ => rfl)) (.here arg5) (.dma r0.sem) (View.wordExact_bits rfl) harg5.wordExact ⟨Or.inl rfl, trivial⟩)
  Prog.lift (.waitDma2 r0.sem (arg2.slice (Rect.unit (s := S425984) (k0_off1 i) S13312.size (k0_off1_inb i)) (fun _ => rfl)) arg5 (View.wordExact_bits rfl) harg5.wordExact)

/-- The tile's four rows of the result. -/
abbrev outOf (i : grid0.Coords) (arg4 : Memref sig .scVector .hbm S32x4x128 .f32) : Memref sig .scVector .hbm S4x128 .f32 :=
  (arg4.slice (Rect.unit (s := S32x4x128) (k0_off2 i) S1x4x128.size (k0_off2_inb i)) (fun _ => rfl)).squeeze S4x128 squeezes_S1x4x128_S4x128

/-- Copy the tile's words out. -/
def writeOut (i : grid0.Coords) (arg4 : Memref sig .scVector .hbm S32x4x128 .f32) (arg7 : Memref sig .scVector .vmem S4x128 .f32) (harg7 : arg7.IsWhole)
    (r1 : DmaSems sig S_) : TProg F i PUnit := do
  Prog.lift (.enqueueDma arg7 (.here (outOf i arg4)) (.dma r1.sem) harg7.wordExact ((View.wordExact_bits rfl).reshape _ _) ⟨Or.inl rfl, trivial⟩)
  Prog.lift (.waitDma2 r1.sem arg7 (outOf i arg4) harg7.wordExact ((View.wordExact_bits rfl).reshape _ _))

/-- The whole body by its steps. -/
def body (i : grid0.Coords) (arg2 : Memref sig .scVector .hbm S425984 .f32) (arg3 : Memref sig .scVector .hbm S2097152 .f32) (arg4 : Memref sig .scVector .hbm S32x4x128 .f32)
    (arg5 : Memref sig .scVector .vmem S13312 .f32) (harg5 : arg5.IsWhole) (arg6 : Memref sig .scVector .vmem S4x128 .i32)
    (arg7 : Memref sig .scVector .vmem S4x128 .f32) (harg7 : arg7.IsWhole) (arg8 r0 r1 : DmaSems sig S_) : TProg F i PUnit := do
  fetchSlots i arg2 arg5 harg5 r0
  steps (fillChunk i arg5 arg6) 0 32
  steps (startGather i arg3 arg6 arg7 arg8) 0 4
  steps (awaitGather i arg3 arg7 arg8) 0 4
  steps (scaleChunk i arg7) 0 32
  writeOut i arg4 arg7 harg7 r1

set_option maxRecDepth 65536 in
set_option maxHeartbeats 4000000 in
/-- The printed body is these steps: by definitional unfolding. -/
theorem body_eq (i : grid0.Coords) (arg2 : Memref sig .scVector .hbm S425984 .f32) (harg2 : arg2.IsWhole) (arg3 : Memref sig .scVector .hbm S2097152 .f32) (harg3 : arg3.IsWhole)
    (arg4 : Memref sig .scVector .hbm S32x4x128 .f32) (harg4 : arg4.IsWhole) (arg5 : Memref sig .scVector .vmem S13312 .f32) (harg5 : arg5.IsWhole)
    (arg6 : Memref sig .scVector .vmem S4x128 .i32) (harg6 : arg6.IsWhole) (arg7 : Memref sig .scVector .vmem S4x128 .f32) (harg7 : arg7.IsWhole) (arg8 r0 r1 : DmaSems sig S_) :
    cc0_sc_gather (F := F) i arg2 harg2 arg3 harg3 arg4 harg4 arg5 harg5 arg6 harg6 arg7 harg7 arg8 r0 r1
      = body i arg2 arg3 arg4 arg5 harg5 arg6 arg7 harg7 arg8 r0 r1 := rfl

end Cert.KernelIdeal.Tile

end
-- ==== Proof.KernelIdeal.Words.lean ====
/-
  What the tile's two work buffers hold, chunk by chunk and row by row: the offset list as the fill leaves it and
  the gathered words as the scaling leaves them, with the arithmetic of the kernel's 32-bit index words.
-/
module

public import proofs.«01_k».proof.Proof.KernelIdeal.Body
public import Idealize.ShloMosaic.Lib.Pipeline.Value

@[expose] public section

noncomputable section

namespace Cert.KernelIdeal.Tile

open Cert.KernelIdeal Cert.KernelIdeal.Gen
open Idealize.ShloMosaic Idealize.SL.Sem

variable {F : FTy → Type} [FloatOps F]

/-! ## Positions in a buffer of four rows of 128 words -/

/-- The place of an element among the 512 words, row by row. -/
def pos (p : S4x128.Idx) : ℕ := 128 * (p 0).val + (p 1).val

theorem pos_lt (p : S4x128.Idx) : pos p < 512 := by
  have h0 : (p 0).val < 4 := (p 0).isLt
  have h1 : (p 1).val < 128 := (p 1).isLt
  unfold pos; omega

/-- Contents whose first `16 n` words are `new` and whose others are `old`. -/
def filled {α : Type} (n : ℕ) (new old : S4x128.Idx → α) : S4x128.Idx → α :=
  fun p => if pos p < 16 * n then new p else old p

theorem filled_zero {α : Type} (new old : S4x128.Idx → α) : filled 0 new old = old :=
  funext fun p => if_neg (by omega)

theorem filled_all {α : Type} (new old : S4x128.Idx → α) : filled 32 new old = new :=
  funext fun p => if_pos (by have := pos_lt p; omega)

/-- Word `l` of chunk `c` is word `16 c + l` of the buffer. -/
theorem pos_chunk {c : ℕ} (hc : c < 32) (x : S1x16.Idx) : pos ((chunk c).emb x) = 16 * c + (x 1).val := by
  have h0 : (x 0).val < 1 := (x 0).isLt
  have e0 : (((chunk c).emb x) 0).val = c / 8 % 4 + 1 * (x 0).val := Rect.emb_apply _ _ _
  have e1 : (((chunk c).emb x) 1).val = 16 * (c % 8) + 1 * (x 1).val := Rect.emb_apply _ _ _
  unfold pos; rw [e0, e1]; omega

/-- The elements of chunk `c` are the words `16 c`, …, `16 c + 15`. -/
theorem mem_chunk {c : ℕ} (hc : c < 32) {p : S4x128.Idx} : p ∈ (chunk c).set ↔ 16 * c ≤ pos p ∧ pos p < 16 * c + 16 := by
  have h0 : (p 0).val < 4 := (p 0).isLt
  have h1 : (p 1).val < 128 := (p 1).isLt
  rw [Rect.mem_set_unit]
  unfold pos
  constructor
  · intro h
    have a0 : c / 8 % 4 ≤ (p 0).val ∧ (p 0).val < c / 8 % 4 + 1 := h 0
    have a1 : 16 * (c % 8) ≤ (p 1).val ∧ (p 1).val < 16 * (c % 8) + 16 := h 1
    omega
  · intro h a
    match a with
    | ⟨0, _⟩ => show c / 8 % 4 ≤ (p 0).val ∧ (p 0).val < c / 8 % 4 + 1; omega
    | ⟨1, _⟩ => show 16 * (c % 8) ≤ (p 1).val ∧ (p 1).val < 16 * (c % 8) + 16; omega

/-- A write is told by its words under the view and the old contents elsewhere. -/
theorem write_eq_of {sig : RefSig} {κ : Kind} {sp : Space} {s : Shape} {e : EltTy} {Val : EltTy → Type} {v : View sig κ sp s e}
    {f g : v.ty.Contents Val} {w : s.Idx → Val e} (hin : ∀ x, g (v.emb x) = cast (congrArg Val v.elt_eq.symm) (w x))
    (hout : ∀ i, i ∉ v.set → g i = f i) : v.write Val f w Finset.univ = g := by
  funext i
  by_cases hi : i ∈ v.set
  · obtain ⟨x, -, rfl⟩ := Finset.mem_map.mp hi
    rw [View.write_emb_of_mem _ _ (Finset.mem_univ x), hin]
  · rw [View.write_of_not_mem _ _ _ hi, hout i hi]

/-- Writing chunk `c` with the next sixteen of the new words, over contents with `16 c` of them in place. -/
theorem filled_step {α : Type} {c : ℕ} (hc : c < 32) (new old : S4x128.Idx → α) :
    (∀ x : S1x16.Idx, filled (c + 1) new old ((chunk c).emb x) = new ((chunk c).emb x))
      ∧ (∀ p, p ∉ (chunk c).set → filled (c + 1) new old p = filled c new old p) := by
  constructor
  · intro x
    have hx : (x 1).val < 16 := (x 1).isLt
    exact if_pos (by rw [pos_chunk hc]; omega)
  · intro p hp
    rw [mem_chunk hc] at hp
    unfold filled
    by_cases h : pos p < 16 * c
    · rw [if_pos h, if_pos (by omega)]
    · rw [if_neg h, if_neg (by omega)]

/-- A chunk's word as a vector of sixteen. -/
theorem shapeCast_chunk {α : Type} (v : S16.Idx → α) (h : S16.ShapeCasts S1x16) (x : S1x16.Idx) :
    shapeCast S1x16 v h x = v (fun | 0 => x 1) :=
  (shapeCast_addUnit_apply ![16] v h x).trans (congrArg v (funext fun a => by
    match a with
    | ⟨0, _⟩ => rfl))

/-- A vector of sixteen read out of a chunk. -/
theorem shapeCast_lanes {α : Type} (v : S1x16.Idx → α) (h : S1x16.ShapeCasts S16) (x : S16.Idx) :
    shapeCast S16 v h x = v (fun | 0 => ⟨0, Nat.one_pos⟩ | 1 => x 0) :=
  (shapeCast_dropUnit_apply ![16] v h x).trans (congrArg v (funext fun a => by
    match a with
    | ⟨0, _⟩ => rfl
    | ⟨1, _⟩ => rfl))

/-! ## The offset list -/

/-- The number of the tile's first row. -/
def baseRow (i : grid0.Coords) : ℕ := 512 * (2 * (i 1).val + (i 0).val)

theorem baseRow_le (i : grid0.Coords) : baseRow i + 512 ≤ 16384 := by
  have h0 : (i 0).val < 2 := (i 0).isLt
  have h1 : (i 1).val < 16 := (i 1).isLt
  unfold baseRow; omega

theorem baseWord_toNat (i : grid0.Coords) : (baseWord i).toNat = baseRow i := by
  have h0 : (i 0).val < 2 := (i 0).isLt
  have h1 : (i 1).val < 16 := (i 1).isLt
  simp only [baseWord, Scalar.muli, Scalar.addi, IntOp.muli, IntOp.addi, BitVec.toNat_mul, BitVec.toNat_add, BitVec.toNat_ofNat, baseRow]
  omega

/-- Where row `k`'s slot lies in the tile's rows of the slot table. -/
def slotIx (k : ℕ) : S13312.Idx := fun | 0 => ⟨26 * (k % 512), by show 26 * (k % 512) < 13312; omega⟩

/-- The offset of row `k` of the tile, as the kernel computes it from the tile's slots. -/
def offWord (i : grid0.Coords) (Z : S13312.Idx → Elt F .f32) (k : ℕ) : BitVec 32 :=
  IntOp.addi (IntOp.muli (IntOp.addi (baseWord i) (BitVec.ofNat 32 k)) 128#32) (FloatOps.fptosi 32 (Z (slotIx k)))

/-- The offset list. -/
def offsets (i : grid0.Coords) (Z : S13312.Idx → Elt F .f32) : S4x128.Idx → Elt F .i32 := fun p => offWord i Z (pos p)

/-- Lane `l` of chunk `c` is place `16 c + l`. -/
theorem laneWords_apply (c : ℕ) (x : S16.Idx) : laneWords c x = BitVec.ofNat 32 (16 * c + (x 0).val) := by
  show iota .scVector S16 32 [0] iota_S16_d0_w32_scVector x + BitVec.ofNat 32 (16 * c) = _
  rw [iota_single_apply, ← BitVec.ofNat_add, Nat.add_comm]

theorem slotAt_toNat {c : ℕ} (hc : c < 32) (x : S16.Idx) : (slotAt c x).toNat = 26 * (16 * c + (x 0).val) := by
  have hx : (x 0).val < 16 := (x 0).isLt
  show (laneWords c x * 26#32).toNat = _
  rw [laneWords_apply, BitVec.toNat_mul, BitVec.toNat_ofNat, BitVec.toNat_ofNat]
  omega

/-- The kernel's check of a chunk's slot places: they lie in the tile's rows of the slot table. -/
theorem chk_slotAt {c : ℕ} (hc : c < 32) : k0_chk1 (slotAt c) := by
  intro a x
  have hx : (x 0).val < 16 := (x 0).isLt
  have h : (slotAt c x).toNat < 13312 := by rw [slotAt_toNat hc]; omega
  match a with
  | ⟨0, _⟩ => exact h

/-- What the fill stores in chunk `c` is the offset list there. -/
theorem offsetWords_chunk (i : grid0.Coords) (Z : S13312.Idx → Elt F .f32) {c : ℕ} (hc : c < 32)
    (h : ∀ a x, ((![slotAt c] : Fin 1 → IVec S16 32) a x).toNat < S13312.size a) (x : S1x16.Idx) :
    shapeCast S1x16 (offsetWords i c (loadIdx (s := S13312) (t := S16) (e := .f32) Z ![slotAt c] h)) shapeCasts_S16_S1x16 x
      = offsets i Z ((chunk c).emb x) := by
  have hx : (x 1).val < 16 := (x 1).isLt
  rw [shapeCast_chunk]
  show IntOp.addi (IntOp.muli (IntOp.addi (baseWord i) (laneWords c (fun | 0 => x 1))) 128#32)
      (FloatOps.fptosi 32 (Z (idxAt (s := S13312) ![slotAt c] h (fun | 0 => x 1)))) = offWord i Z (pos ((chunk c).emb x))
  rw [laneWords_apply, pos_chunk hc]
  unfold offWord
  congr 3
  funext a
  refine Fin.ext ?_
  match a with
  | ⟨0, _⟩ =>
    show (slotAt c (fun | 0 => x 1)).toNat = 26 * ((16 * c + (x 1).val) % 512)
    rw [slotAt_toNat hc, Nat.mod_eq_of_lt (by omega)]

/-- A row's offset when its slot is below 128: 128 times the row's number, and the slot. -/
theorem offWord_toNat (i : grid0.Coords) (Z : S13312.Idx → Elt F .f32) {k : ℕ} (hk : k < 512)
    (hz : (FloatOps.fptosi (φ := .f32) 32 (Z (slotIx k)) : BitVec 32).toNat < 128) :
    (offWord i Z k).toNat = 128 * (baseRow i + k) + (FloatOps.fptosi (φ := .f32) 32 (Z (slotIx k)) : BitVec 32).toNat := by
  have hb := baseRow_le i
  show ((baseWord i + BitVec.ofNat 32 k) * 128#32 + FloatOps.fptosi (φ := .f32) 32 (Z (slotIx k))).toNat = _
  rw [BitVec.toNat_add, BitVec.toNat_mul, BitVec.toNat_add, baseWord_toNat, BitVec.toNat_ofNat, BitVec.toNat_ofNat]
  omega

/-- Every slot among the tile's rows is below 128. -/
def SlotsOK (Z : S13312.Idx → Elt F .f32) : Prop := ∀ k, (FloatOps.fptosi (φ := .f32) 32 (Z (slotIx k)) : BitVec 32).toNat < 128

theorem offWord_lt (i : grid0.Coords) (Z : S13312.Idx → Elt F .f32) (hz : SlotsOK Z) {k : ℕ} (hk : k < 512) : (offWord i Z k).toNat < 2097152 := by
  have hb := baseRow_le i
  have := hz k
  rw [offWord_toNat i Z hk this]
  omega

/-! ## The gathered and the scaled words -/

/-- The gathered words: the flat table's word at each offset. -/
def gathered (i : grid0.Coords) (Z : S13312.Idx → Elt F .f32) (A : S2097152.Idx → Elt F .f32) : S4x128.Idx → Elt F .f32 :=
  fun p => A (fun | 0 => ⟨(offWord i Z (pos p)).toNat % 2097152, Nat.mod_lt _ (by decide)⟩)

/-- The kernel's scaling of one word. -/
def scaleWord (v : Elt F .f32) : Elt F .f32 := FloatOps.mulf (φ := .f32) v (Scalar.ofBits .f32 0x3F7FBE77#32)

/-- A buffer's words scaled. -/
def scaled (G : S4x128.Idx → Elt F .f32) : S4x128.Idx → Elt F .f32 := fun p => scaleWord (G p)

/-- What the scaling stores in chunk `c`, from the chunk's words read through any view that has them. -/
theorem scaledWords_chunk (v : S1x16.Idx → Elt F .f32) (x : S1x16.Idx) :
    shapeCast S1x16 (scaledWords (F := F) v) shapeCasts_S16_S1x16 x = scaleWord (v x) := by
  rw [shapeCast_chunk]
  show FloatOps.mulf (φ := .f32) (shapeCast S16 v shapeCasts_S1x16_S16 (fun | 0 => x 1)) (Scalar.ofBits .f32 0x3F7FBE77#32) = _
  rw [shapeCast_lanes]
  unfold scaleWord
  congr 2
  funext a
  match a with
  | ⟨0, _⟩ => exact Fin.ext (by have : (x 0).val < 1 := (x 0).isLt; show 0 = (x 0).val; omega)
  | ⟨1, _⟩ => rfl

end Cert.KernelIdeal.Tile

end
-- ==== Proof.Gathers.lean ====
/-
  Several indirect gathers in flight on one DMA semaphore.

  A tile that starts gather after gather on one semaphore and only then waits learns nothing from any wait but
  the last: the counter may have been raised by entries of every gather. So all the ENTRIES of all the gathers
  are counted as one batch of transfers of equal credit (the library's `Transfers.Batch`), each gather issuing
  as many transfers of the batch as its offset list has entries. This module proves the issue's rule for that
  use, and what the deliveries of one gather's entries amount to once all are in hand.
-/
module

public import Idealize.ShloMosaic.Lib.Batch
public import Idealize.ShloMosaic.Lib.SparseCore.Stream

@[expose] public section

noncomputable section

namespace Cert.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

/-! ## A run of a batch's transfers -/

section Run

variable {M : Type} [URA M]

/-- The issue rights from the `k`-th on are the next `o` and those from the `k + o`-th on. -/
theorem pending_run {n k o : ℕ} (h : k + o ≤ n) (Φ : Fin n → sProp M) :
    bigSep (Transfers.pending k) Φ
      = iprop(bigSep Finset.univ (fun j : Fin o => Φ ⟨k + j.val, by omega⟩) ∗ bigSep (Transfers.pending (k + o)) Φ) := by
  let e : Fin o ↪ Fin n := ⟨fun j => ⟨k + j.val, by omega⟩, fun a b hab => Fin.ext (by simpa using congrArg Fin.val hab)⟩
  have hu : Transfers.pending (n := n) k = Finset.univ.map e ∪ Transfers.pending (k + o) := by
    ext t
    simp only [Transfers.pending, Finset.mem_union, Finset.mem_filter, Finset.mem_univ, true_and, Finset.mem_map]
    constructor
    · intro hk
      rcases Nat.lt_or_ge t.val (k + o) with hlt | hge
      · exact .inl ⟨⟨t.val - k, by omega⟩, Fin.ext (show k + (t.val - k) = t.val by omega)⟩
      · exact .inr hge
    · rintro (⟨j, rfl⟩ | hge)
      · exact Nat.le_add_right _ _
      · omega
  have hd : Disjoint (Finset.univ.map e) (Transfers.pending (n := n) (k + o)) := by
    refine Finset.disjoint_left.mpr fun t ht ht' => ?_
    obtain ⟨j, -, rfl⟩ := Finset.mem_map.mp ht
    have h1 : k + o ≤ k + j.val := (Finset.mem_filter.mp ht').2
    have := j.isLt
    omega
  rw [hu, BI.bigSep_union hd, BI.bigSep_map]
  rfl

end Run

/-! ## The entries of one gather -/

section Entry

variable {nD : Nat} {τ : Topo} {sig : RefSig} {Ix : Type} [DecidableEq Ix]
variable {F : FTy → Type} {Name : Type} [DecidableEq Name]
variable {U : Type} [URA U] {Lvl : Type}
variable (c : Thread nD τ) {sp : Space} {s₀ s si : Shape} {e : EltTy} {a : Nat}

local notation "𝕄" => MT nD τ sig Ix (Elt F) Name U Lvl

/-- The place of entry `j` in the offset list, counted in row-major order. -/
abbrev entryAt {o : ℕ} (hn : si.numel = o) (j : Fin o) : si.Idx := si.rowMajor.symm (j.cast hn.symm)

theorem entryAt_bijective {o : ℕ} (hn : si.numel = o) : Function.Bijective (entryAt (si := si) hn) :=
  si.rowMajor.symm.bijective.comp (finCongr hn.symm).bijective

/-- Row `x` of the source, as the words of one row of a gather's destination. -/
def rowWords (src : Memref sig c.2.kind sp s₀ e) (hg : s₀.Gathers a s) (fs : Buf (Elt F) (src.view.loc c)) (x : Fin (s₀.size hg.axis)) :
    (s.rowShape hg.axis').Idx → Elt F e :=
  fun i => src.view.read (Elt F) fs (hg.rowIdx x i)

/-- What entry `j` of a gather gives back when its row has landed: the destination's row `j` holding the source's
    row that the entry named, the entry's own word of the offset list, and the entry's part of the source's share. -/
def arrived (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (ho : 0 < s.size hg.axis') (j : Fin (s.size hg.axis')) : sProp 𝕄 :=
  iprop(((dst.view.loc c ↦[(dst.view.slice (s.rowRect hg.axis' j)).set]{fullShare}
            ((dst.view.slice (s.rowRect hg.axis' j)).write (Elt F) fd (rowWords c src hg fs (r j)) Finset.univ))
        ∗ (offs.view.loc c ↦[{offs.view.emb (entryAt hn j)}]{qo} fo))
      ∗ (src.view.loc c ↦[src.view.set]{pieceOf q _ ho j} fs))

instance arrived_storable (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (ho : 0 < s.size hg.axis') (j : Fin (s.size hg.axis')) :
    Storable (upEmb : UEmb _ 𝕄) (arrived c src dst hg offs hn q qo fs fd fo r ho j) := by
  unfold arrived; infer_instance

/-- All the entries arrived are the destination holding the gather's payload, and the source's and the list's
    shares whole again. -/
theorem arrived_all (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (ho : 0 < s.size hg.axis') :
    bigSep Finset.univ (fun j => arrived c src dst hg offs hn q qo fs fd fo r ho j)
      ⊢ (iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) : sProp 𝕄) := by
  unfold arrived
  iintro H
  ihave H := Transfers.bigSep_sep_out _ _ _ $$ H
  icases H with ⟨H, Hs⟩
  ihave H := Transfers.bigSep_sep_out _ _ _ $$ H
  icases H with ⟨Hd, Ho⟩
  isplitl [Hd]
  · iapply (pointsTo_rows_write c dst.view hg.axis' fd (fun j => rowWords c src hg fs (r j)) _ fun j i => by
      unfold gatherPayload rowWords; rw [Shape.Gathers.idx_rowRect_emb]) $$ Hd
  · isplitl [Hs]
    · rw [pointsTo_piecesOf src.view.set fs ho q]
      iexact Hs
    · rw [pointsTo_entries c offs.view (entryAt hn) (entryAt_bijective hn) qo fo]
      iexact Ho

end Entry

/-! ## The issue -/

section Issue

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- Starting one more gather of a batch: with the first `k₀` transfers of the batch issued, the gather's entries
    are the next ones. The tile hands in a share of the source, the destination outright and a share of an offset
    list whose words are in range, and continues holding the batch with the gather's entries issued; what each entry
    gives back (`arrived`) must be what the batch says of its transfer (`hD`). -/
theorem wp_gather [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) {n N k₀ u : ℕ} {D : Fin n → sProp 𝕄}
    (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hk : k₀ + s.size hg.axis' ≤ n) (hu : u ≤ k₀ * N)
    (hD : ∀ j : Fin (s.size hg.axis'), arrived c src dst hg offs hn q qo fs fd fo (rows (offs.view.read (Elt F) fo) hn hin) ho j
      ⊢ D ⟨k₀ + j.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D k₀ u)
      ⊢ iprop((Transfers.Batch EC c (.dma sem) ι N D (k₀ + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let row : Fin (s.size hg.axis') → Elt F .i32 → Option (RowDma τ sig (Elt F) c.2 sem) :=
    fun j w => (rowOf (s₀.size hg.axis) w).map (gatherRow c src dst hg sem hsrc he hsp hr j)
  let r := rows (offs.view.read (Elt F) fo) hn hin
  let rd : Fin (s.size hg.axis') → RowDma τ sig (Elt F) c.2 sem := fun j => gatherRow c src dst hg sem hsrc he hsp hr j (r j)
  -- one entry: its word of the list, and behind it what its row transfer hands in
  have hentry : ∀ (γ : Fin n → ℕ) (γ₀ : ℕ) (κ : Name) (j : Fin (s.size hg.axis')),
      iprop(inv κ (Transfers.batchBody EC (c, SemLoc.dma sem) N D γ γ₀)
        ∗ ((((dst.view.loc c ↦[(dst.view.slice (s.rowRect hg.axis' j)).set]{fullShare} fd)
            ∗ (offs.view.loc c ↦[{offs.view.emb (entryAt hn j)}]{qo} fo))
          ∗ (src.view.loc c ↦[src.view.set]{pieceOf q _ ho j} fs))
        ∗ count EC (γ ⟨k₀ + j.val, by omega⟩) 0))
      ⊢ (iprop((offs.view.loc c ↦[{offs.view.emb (entryAt hn j)}]{qo} fo)
          ∗ ((offs.view.loc c ↦[{offs.view.emb (entryAt hn j)}]{qo} fo) -∗ rowRes c (rd j))) : sProp 𝕄) := by
    intro γ γ₀ κ j
    iintro ⟨#Hinv, ⟨⟨Hd, Ho⟩, Hs⟩, Hc⟩
    isplitl [Ho]
    · iexact Ho
    · iintro Ho
      unfold rowRes
      iexists pieceOf q _ ho j, fs, iprop((dst.view.loc c ↦[(dst.view.slice (s.rowRect hg.axis' j)).set]{fullShare}
            ((dst.view.slice (s.rowRect hg.axis' j)).write (Elt F) fd (rowWords c src hg fs (r j)) Finset.univ))
          ∗ (offs.view.loc c ↦[{offs.view.emb (entryAt hn j)}]{qo} fo))
      isplitl [Hs]
      · iexact Hs
      · isplitl [Hd Ho]
        · iapply writeUpdate_frame
          isplitl [Hd]
          · iapply (pointsTo_writeUpdate c (v := dst.view.slice (s.rowRect hg.axis' j)) subset_rfl) $$ Hd
          · iexact Ho
        · rw [show (rd j).dst.view.amount (.dma sem) = N from hN j]
          iapply (Transfers.batch_creditUpdate EC (D := D) (γ := γ) (γ₀ := γ₀) ⟨k₀ + j.val, by omega⟩ (hD j))
          isplitr
          · iexact Hinv
          · iexact Hc
  have hA : (Stream.issued c offs.view hn sem row 0).RowsAgree := by
    intro j w w' ρ ρ' h h'
    obtain ⟨_, -, rfl⟩ := Option.map_eq_some_iff.mp h
    obtain ⟨_, -, rfl⟩ := Option.map_eq_some_iff.mp h'
    rfl
  have hrd : ∀ j, row j ((Stream.issued c offs.view hn sem row 0).word fo j) = some (rd j) := fun j => by
    show (rowOf (s₀.size hg.axis) (offs.view.read (Elt F) fo (entryAt hn j))).map _ = _
    rw [rowOf_of_lt (hin _)]; rfl
  have hsum : ∑ j, (rd j).dst.view.dmaCredit = s.size hg.axis' * N := by
    rw [Finset.sum_congr rfl fun j _ => (show (rd j).dst.view.dmaCredit = N from hN j)]
    simp
  unfold Transfers.Batch
  rw [pointsTo_rows c dst.view hg.axis' fullShare fd, pointsTo_entries c offs.view (entryAt hn) (entryAt_bijective hn) qo fo,
    pointsTo_piecesOf src.view.set fs ho q]
  iintro ⟨Hs, Hd, Ho, ⟨%γ, %γ₀, %κ, #Hinv, Hpend, H0, Hcred⟩⟩ Hk
  ihave Hp := (Entails.of_eq (pending_run (o := s.size hg.axis') hk (fun t => (count EC (γ t) 0 : sProp 𝕄)))) $$ Hpend
  icases Hp with ⟨Hnow, Hlater⟩
  iapply (wp_enqueueIndirectDma 𝒱 c bd Set.univ (qo := qo) (fo := fo) (rd := rd) ι (s.size hg.axis' * N) hA hrd hsum) $$ [Hs Hd Ho Hnow]
  · unfold Stream.res
    ihave H := Transfers.bigSep_sep_in _ _ _ $$ [Hd Ho]
    · isplitl [Hd] <;> iassumption
    ihave H := Transfers.bigSep_sep_in _ _ _ $$ [H Hs]
    · isplitl [H] <;> iassumption
    ihave H := Transfers.bigSep_sep_in _ _ _ $$ [H Hnow]
    · isplitl [H] <;> iassumption
    iapply (Transfers.bigSep_mono_pers Finset.univ _ _ _ fun j _ => hentry γ γ₀ κ j)
    isplitr
    · iexact Hinv
    · iexact H
  · iintro Hnew
    iapply Hk
    iexists γ, γ₀, κ
    isplitr
    · iexact Hinv
    isplitl [Hlater]
    · iexact Hlater
    isplitl [H0]
    · iexact H0
    rw [show (k₀ + s.size hg.axis') * N - u = (k₀ * N - u) + s.size hg.axis' * N by rw [Nat.add_mul]; omega, ← tallyAt_add]
    icombine Hcred Hnew as H
    iexact H

end Issue

end Cert.GatherBatch
-- ==== Proof.KernelIdeal.Setup.lean ====
/-
  The gather kernel's program as the launch theorem sees it, and the pieces of memory one tile works on.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.KernelIdeal.Words
public import proofs.«01_k».proof.Proof.Gathers

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The slot table, flat. -/
abbrev zLoc (d : Dev nD) : Loc nD τ sig := (SparseCore.T d).loc main_v0
/-- The table, flat. -/
abbrev aLoc (d : Dev nD) : Loc nD τ sig := (SparseCore.T d).loc main_v1
/-- The tiles' result. -/
abbrev oLoc (d : Dev nD) : Loc nD τ sig := (SparseCore.T d).loc main_v2

abbrev zV : Memref sig .scVector .hbm S425984 .f32 := Memref.whole main_v0_scv
abbrev aV : Memref sig .scVector .hbm S2097152 .f32 := Memref.whole main_v1_scv
abbrev oV : Memref sig .scVector .hbm S32x4x128 .f32 := Memref.whole main_v2_scv
abbrev slotV : Memref sig .scVector .vmem S13312 .f32 := Memref.whole cc0_scratch0
abbrev idxV : Memref sig .scVector .vmem S4x128 .i32 := Memref.whole cc0_scratch1
abbrev valV : Memref sig .scVector .vmem S4x128 .f32 := Memref.whole cc0_scratch2

abbrev cV (L : grid0.Coords) : Fin τ.nSC := (L 0).castLE hcore0
abbrev jV (L : grid0.Coords) : Fin τ.nSub := (L 1).castLE hsub0
/-- The thread of the tile at grid point `L` of device `d`. -/
abbrev tile (d : Dev nD) (L : grid0.Coords) : Thread nD τ := V d (cV L) (jV L)

/-! ## The tile's own cells and buffers -/

section Own

variable (d : Dev nD) (L : grid0.Coords)

abbrev gCell : GSem nD τ sig := (tile d L, .dma cc0_scratch3.sem)
abbrev fCell : GSem nD τ sig := (tile d L, .dma cc0_scoped0.sem)
abbrev wCell : GSem nD τ sig := (tile d L, .dma cc0_scoped1.sem)

/-- The three DMA semaphores the kernel uses are among the tile's own. -/
theorem ownSems0_tile :
    (ownSems0 (tile d L) : sProp 𝕄)
      = iprop(semVal (gCell d L) 0 ∗ semVal (fCell d L) 0 ∗ semVal (wCell d L) 0
          ∗ bigSep ((((ownCells (tile d L)).erase (gCell d L)).erase (fCell d L)).erase (wCell d L)) fun g => semVal g 0) := by
  unfold SparseCore.Cfg.ownSems0
  rw [SparseCore.bigSep_erase' ((mem_ownCells (g := gCell d L)).mpr ⟨rfl, by
      show (SemLoc.dma cc0_scratch3.sem : SemLoc sig).isScoped .scVector = true; decide⟩),
    SparseCore.bigSep_erase' (Finset.mem_erase.mpr ⟨by simp [gCell, fCell]; decide, (mem_ownCells (g := fCell d L)).mpr ⟨rfl, by
      show (SemLoc.dma cc0_scoped0.sem : SemLoc sig).isScoped .scVector = true; decide⟩⟩),
    SparseCore.bigSep_erase' (Finset.mem_erase.mpr ⟨by simp [fCell, wCell]; decide, Finset.mem_erase.mpr ⟨by simp [gCell, wCell]; decide,
      (mem_ownCells (g := wCell d L)).mpr ⟨rfl, by show (SemLoc.dma cc0_scoped1.sem : SemLoc sig).isScoped .scVector = true; decide⟩⟩⟩)]

/-- The three scratch buffers are among the tile's own. -/
theorem ownBufs_tile :
    (ownBufs (tile d L) : sProp 𝕄)
      = iprop((∃ f, (tile d L).loc cc0_scratch0 ↦{fullShare} f) ∗ (∃ f, (tile d L).loc cc0_scratch1 ↦{fullShare} f) ∗ (∃ f, (tile d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

end Own

/-! ## A loop's rule -/

variable [FloatOps F]

/-- The tile's program at thread `tile d L`. -/
abbrev WP (d : Dev nD) (L : grid0.Coords) {α : Type} (p : TProg F L α) (Q : α → sProp (MT nD τ sig (HIx 1) (Elt F) ℕ UU ℕ)) : sProp (MT nD τ sig (HIx 1) (Elt F) ℕ UU ℕ) :=
  wp frame (wpE (defs₀ (F := F)) 𝒱₀ (tile d L) none) Set.univ p Q

/-- An invariant kept by every step is kept by the whole loop. -/
theorem wp_steps (d : Dev nD) (L : grid0.Coords) (f : ℕ → TProg F L PUnit) (I : ℕ → sProp 𝕄) : ∀ (n k : ℕ),
    (∀ c, k ≤ c → c < k + n → (I c ⊢ WP d L (f c) fun _ => I (c + 1))) → (I k ⊢ WP d L (steps f k n) fun _ => I (k + n))
  | 0, k, _ => by
    show _ ⊢ wp frame _ _ (pure PUnit.unit : TProg F L PUnit) _
    rw [wp_pure]; exact fupd_intro
  | n + 1, k, h => by
    show _ ⊢ wp _ _ _ (f k >>= fun _ => steps f (k + 1) n) _
    rw [wp_bind]
    refine (h k le_rfl (by omega)).trans (wp_mono frame _ _ fun _ => ?_)
    have := wp_steps d L f I n (k + 1) fun c hc hc' => h c (by omega) (by omega)
    rwa [show k + 1 + n = k + (n + 1) by omega] at this

end Cert.KernelIdeal.Tile

end
-- ==== Proof.KernelIdeal.Steps.lean ====
/-
  What each step of a tile's program does to the tile's memory.
-/
module

public import proofs.«01_k».proof.Proof.KernelIdeal.Setup

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## The offset list's chunks -/

theorem set_chunk_idx (c : ℕ) : (idxV.access (chunk c)).set = (chunk c).set := by
  show ((View.whole (cc0_scratch1 : Ref sig .scVector)).slice (chunk c)).set = _
  rw [View.set_slice]; exact Finset.map_refl
theorem set_chunk_val (c : ℕ) : (valV.access (chunk c)).set = (chunk c).set := by
  show ((View.whole (cc0_scratch2 : Ref sig .scVector)).slice (chunk c)).set = _
  rw [View.set_slice]; exact Finset.map_refl

theorem write_chunk_idx {c : ℕ} {f g : S4x128.Idx → Elt F .i32} {w : S1x16.Idx → Elt F .i32} (h1 : ∀ x, g ((chunk c).emb x) = w x)
    (h2 : ∀ p, p ∉ (chunk c).set → g p = f p) : (idxV.access (chunk c)).write (Elt F) f w Finset.univ = g :=
  write_eq_of (v := idxV.access (chunk c)) h1 fun p hp => h2 p (by rwa [set_chunk_idx] at hp)
theorem write_chunk_val {c : ℕ} {f g : S4x128.Idx → Elt F .f32} {w : S1x16.Idx → Elt F .f32} (h1 : ∀ x, g ((chunk c).emb x) = w x)
    (h2 : ∀ p, p ∉ (chunk c).set → g p = f p) : (valV.access (chunk c)).write (Elt F) f w Finset.univ = g :=
  write_eq_of (v := valV.access (chunk c)) h1 fun p hp => h2 p (by rwa [set_chunk_val] at hp)

/-- The offset buffer, its first `16 c` words the offsets. -/
abbrev idxAt (Z : S13312.Idx → Elt F .f32) (I0 : S4x128.Idx → Elt F .i32) (c : ℕ) : sProp 𝕄 :=
  (tile d L).loc cc0_scratch1 ↦{fullShare} (filled c (offsets L Z) I0 : S4x128.Idx → Elt F .i32)

/-- Filling chunk `c` puts its sixteen offsets in place, the slots only read. -/
theorem fillChunk_step (Z : S13312.Idx → Elt F .f32) (I0 : S4x128.Idx → Elt F .i32) {c : ℕ} (hc : c < 32) :
    iprop(((tile d L).loc cc0_scratch0 ↦{fullShare} Z) ∗ idxAt d L Z I0 c)
      ⊢ (WP d L (fillChunk L slotV idxV c) fun _ => iprop(((tile d L).loc cc0_scratch0 ↦{fullShare} Z) ∗ idxAt d L Z I0 (c + 1)) : sProp 𝕄) := by
  unfold fillChunk
  simp only [Prog.lift, Prog.bind_op, Prog.bind_ret, Prog.pure_eq_ret]
  iintro ⟨Hz, Hi⟩
  iapply (wp_assume 𝒱₀ (tile d L) none Set.univ (chk_slotAt hc))
  iapply (SparseCore.wp_vectorLoadIdx 𝒱₀ (tile d L) none Set.univ (base := slotV) (S := Finset.univ) (q := fullShare) (Finset.subset_univ _)) $$ Hz; iintro Hz
  iapply (wp_load 𝒱₀ (tile d L) none Set.univ (m := idxV) (S := Finset.univ) (Finset.subset_univ _)) $$ Hi; iintro Hi
  iapply (wp_store 𝒱₀ (tile d L) none Set.univ (m := idxV) (r := chunk c) (Mk := Finset.univ) (S := Finset.univ) (Finset.subset_univ _)) $$ Hi; iintro Hi
  rw [wp_ret]; imodintro
  isplitl [Hz]; · iexact Hz
  have hs := filled_step hc (offsets L Z) I0
  have hw : (idxV.access (chunk c)).write (Elt F) (filled c (offsets L Z) I0 : S4x128.Idx → Elt F .i32)
      (shapeCast S1x16 (offsetWords L c (loadIdx ((slotV.access (.whole S13312)).read (Elt F) Z) ![slotAt c] (chk_slotAt hc))) shapeCasts_S16_S1x16) Finset.univ
      = (filled (c + 1) (offsets L Z) I0 : S4x128.Idx → Elt F .i32) := by
    have hr : (slotV.access (.whole S13312)).read (Elt F) Z = Z := Memref.read_access_whole (Elt F) cc0_scratch0 Z
    rw [hr]
    exact write_chunk_idx (fun x => (hs.1 x).trans (offsetWords_chunk L Z hc _ x).symm) hs.2
  rw [hw]
  iexact Hi

/-! ## The gathered words' chunks -/

/-- The word buffer, its first `16 c` words scaled. -/
abbrev valAt (G : S4x128.Idx → Elt F .f32) (c : ℕ) : sProp 𝕄 :=
  (tile d L).loc cc0_scratch2 ↦{fullShare} (filled c (scaled G) G : S4x128.Idx → Elt F .f32)

theorem scaleChunk_step (G : S4x128.Idx → Elt F .f32) {c : ℕ} (hc : c < 32) :
    valAt d L G c ⊢ (WP d L (scaleChunk L valV c) fun _ => valAt d L G (c + 1) : sProp 𝕄) := by
  unfold scaleChunk
  simp only [Prog.lift, Prog.bind_op, Prog.bind_ret, Prog.pure_eq_ret]
  iintro Hi
  iapply (wp_load 𝒱₀ (tile d L) none Set.univ (m := valV) (S := Finset.univ) (Finset.subset_univ _)) $$ Hi; iintro Hi
  iapply (wp_load 𝒱₀ (tile d L) none Set.univ (m := valV) (S := Finset.univ) (Finset.subset_univ _)) $$ Hi; iintro Hi
  iapply (wp_store 𝒱₀ (tile d L) none Set.univ (m := valV) (r := chunk c) (Mk := Finset.univ) (S := Finset.univ) (Finset.subset_univ _)) $$ Hi; iintro Hi
  rw [wp_ret]; imodintro
  have hs := filled_step hc (scaled G) G
  have hw : (valV.access (chunk c)).write (Elt F) (filled c (scaled G) G : S4x128.Idx → Elt F .f32)
      (shapeCast S1x16 (scaledWords (valV.view.readAt (Elt F) (chunk c).toLoadRect (filled c (scaled G) G : S4x128.Idx → Elt F .f32))) shapeCasts_S16_S1x16) Finset.univ
      = (filled (c + 1) (scaled G) G : S4x128.Idx → Elt F .f32) := by
    refine write_chunk_val (fun x => (hs.1 x).trans ?_) hs.2
    rw [scaledWords_chunk]
    refine congrArg scaleWord ?_
    have hx : (x 1).val < 16 := (x 1).isLt
    show G ((chunk c).emb x) = filled c (scaled G) G ((chunk c).emb x)
    exact (if_neg (by rw [pos_chunk hc]; omega)).symm
  rw [hw]
  iexact Hi

end Cert.KernelIdeal.Tile

end
-- ==== Proof.KernelIdeal.Copies.lean ====
/-
  The two plain copies of a tile's program: the slots in, the words out.
-/
module

public import proofs.«01_k».proof.Proof.KernelIdeal.Setup

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## The slots -/

abbrev zRect : Rect S425984 := Rect.unit (s := S425984) (k0_off1 L) S13312.size (k0_off1_inb L)
/-- The tile's rows of the flat slot table. -/
abbrev zPart : Memref sig .scVector .hbm S13312 .f32 := zV.slice (zRect L) (fun _ => rfl)
/-- The tile's slots, out of the flat slot table. -/
def slotsOf (Zf : S425984.Idx → Elt F .f32) : S13312.Idx → Elt F .f32 := (zPart L).view.read (Elt F) Zf

theorem fetch_step (Zf : S425984.Idx → Elt F .f32) (f0 : S13312.Idx → Elt F .f32) (q : PosShare TreeShare) (O : CellTallies nD τ sig (HIx 1)) (W : Waits sig (HIx 1)) :
    iprop((zLoc d ↦[(zPart L).view.set]{q} Zf) ∗ ((tile d L).loc cc0_scratch0 ↦{fullShare} f0) ∗ semVal (fCell d L) 0
        ∗ Transfers.MayWaits (tile d L) (default : HIx 1) O ∗ owes (tile d L) O W)
      ⊢ (WP d L (fetchSlots L zV slotV (Memref.isWhole_whole _) cc0_scoped0) fun _ =>
          iprop((zLoc d ↦[(zPart L).view.set]{q} Zf) ∗ ((tile d L).loc cc0_scratch0 ↦{fullShare} slotsOf L Zf) ∗ semVal (fCell d L) 0
            ∗ owes (tile d L) O (insert (SemLoc.dma cc0_scoped0.sem, (default : HIx 1)) W)) : sProp 𝕄) := by
  unfold WP fetchSlots
  simp only [Prog.lift, Prog.bind_op, Prog.bind_ret, Prog.pure_eq_ret]
  iintro ⟨Hz, Hs, Hsem, #Hmw, HO⟩
  ihave Hz' := (Entails.of_eq (show (zLoc d ↦[(zPart L).view.set]{q} Zf : sProp 𝕄) = (zPart L).view.loc (tile d L) ↦[(zPart L).view.set]{q} Zf from rfl)) $$ Hz
  ihave Hs' := (Entails.of_eq (show ((tile d L).loc cc0_scratch0 ↦{fullShare} f0 : sProp 𝕄) = slotV.view.loc (tile d L) ↦{fullShare} f0 from rfl)) $$ Hs
  sl_exec
  sl_step
  isplitl [Hz']; · iexact Hz'
  isplitl [Hs']
  · have hw : View.write (Elt F) slotV.view f0 (fetch_step.sl.dma0 L Zf) Finset.univ = slotsOf L Zf := View.write_whole_univ _ _ _
    rw [hw]
    iexact Hs'
  isplitl [Hsem]; · iexact Hsem
  iexact HO

/-! ## The words -/

/-- The result's buffer with the tile's four rows at `G`. -/
def outWritten (G : S4x128.Idx → Elt F .f32) (fo : S32x4x128.Idx → Elt F .f32) : S32x4x128.Idx → Elt F .f32 :=
  (outOf L oV).view.write (Elt F) fo G Finset.univ

/-- A list of one write, of everything, is that write. -/
theorem writes_all {κ : Kind} {sp : Space} {s : Shape} {e : EltTy} (v : View sig κ sp s e) (f : v.ty.Contents (Elt F)) (w : s.Idx → Elt F e) :
    v.writes (Elt F) f [⟨Rect.whole s, w⟩] = v.write (Elt F) f w Finset.univ := by
  have he : ∀ x, (Rect.whole s).emb x = x := fun x => funext fun a => Fin.ext (by rw [Rect.emb_apply]; show 0 + 1 * (x a).val = _; omega)
  refine write_eq_of (v := v.slice (Rect.whole s)) (fun x => ?_) (fun i hi => ?_)
  · show v.write (Elt F) f w Finset.univ (v.emb ((Rect.whole s).emb x)) = _
    rw [he, View.write_emb_of_mem _ _ (Finset.mem_univ x)]
  · refine View.write_of_not_mem _ _ _ fun h => hi ?_
    rw [View.setOn_univ] at h
    obtain ⟨x, -, rfl⟩ := Finset.mem_map.mp h
    refine Finset.mem_map.mpr ⟨x, Finset.mem_univ _, ?_⟩
    show v.emb ((Rect.whole s).emb x) = v.emb x
    rw [he]

theorem writeOut_step (G : S4x128.Idx → Elt F .f32) (fo : S32x4x128.Idx → Elt F .f32) (O : CellTallies nD τ sig (HIx 1)) (W : Waits sig (HIx 1)) :
    iprop((oLoc d ↦[(outOf L oV).view.set]{fullShare} fo) ∗ ((tile d L).loc cc0_scratch2 ↦{fullShare} G) ∗ semVal (wCell d L) 0
        ∗ Transfers.MayWaits (tile d L) (default : HIx 1) O ∗ owes (tile d L) O W)
      ⊢ (WP d L (writeOut L oV valV (Memref.isWhole_whole _) cc0_scoped1) fun _ =>
          iprop((oLoc d ↦[(outOf L oV).view.set]{fullShare} outWritten L G fo) ∗ ((tile d L).loc cc0_scratch2 ↦{fullShare} G) ∗ semVal (wCell d L) 0
            ∗ owes (tile d L) O (insert (SemLoc.dma cc0_scoped1.sem, (default : HIx 1)) W)) : sProp 𝕄) := by
  unfold WP writeOut
  simp only [Prog.lift, Prog.bind_op, Prog.bind_ret, Prog.pure_eq_ret]
  iintro ⟨Ho, Hv, Hsem, #Hmw, HO⟩
  ihave Ho' := (Entails.of_eq (show (oLoc d ↦[(outOf L oV).view.set]{fullShare} fo : sProp 𝕄) = (outOf L oV).view.loc (tile d L) ↦[(outOf L oV).view.set]{fullShare} fo from rfl)) $$ Ho
  ihave Hv' := (Entails.of_eq (show ((tile d L).loc cc0_scratch2 ↦{fullShare} G : sProp 𝕄) = valV.view.loc (tile d L) ↦{fullShare} G from rfl)) $$ Hv
  sl_exec
  sl_step
  isplitl [Ho']
  · rw [writes_all (outOf L oV).view fo (writeOut_step.sl.dma0 G)]
    iexact Ho'
  isplitl [Hv']; · iexact Hv'
  isplitl [Hsem]; · iexact Hsem
  iexact HO

end Cert.KernelIdeal.Tile

end
-- ==== Proof.KernelIdeal.Streams.lean ====
/-
  A tile's four indirect gathers: what they are given, what they give back.
-/
module

public import proofs.«01_k».proof.Proof.KernelIdeal.Setup

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Rows of a buffer of four rows -/

/-- Row `j`'s elements. -/
abbrev rowSet (j : ℕ) : Finset S4x128.Idx := (rowRect j).set

theorem mem_rowSet {j : ℕ} {p : S4x128.Idx} : p ∈ rowSet j ↔ (p 0).val = j % 4 := by
  have h1 : (p 1).val < 128 := (p 1).isLt
  rw [Rect.mem_set_unit]
  constructor
  · intro h
    have a0 : j % 4 ≤ (p 0).val ∧ (p 0).val < j % 4 + 1 := h 0
    omega
  · intro h a
    match a with
    | ⟨0, _⟩ => show j % 4 ≤ (p 0).val ∧ (p 0).val < j % 4 + 1; omega
    | ⟨1, _⟩ => show 0 ≤ (p 1).val ∧ (p 1).val < 0 + 128; omega

theorem rowSet_disjoint : ∀ i ∈ (Finset.univ : Finset (Fin 4)), ∀ j ∈ (Finset.univ : Finset (Fin 4)), i ≠ j → Disjoint (rowSet i.val) (rowSet j.val) := by
  intro i _ j _ hij
  refine Finset.disjoint_left.mpr fun p hi hj => hij (Fin.ext ?_)
  rw [mem_rowSet] at hi hj
  omega

theorem rowSet_cover : (Finset.univ : Finset (Fin 4)).biUnion (fun j => rowSet j.val) = Finset.univ := by
  refine Finset.eq_univ_of_forall fun p => Finset.mem_biUnion.mpr ⟨⟨(p 0).val, (p 0).isLt⟩, Finset.mem_univ _, mem_rowSet.mpr ?_⟩
  have h0 : (p 0).val < 4 := (p 0).isLt
  show (p 0).val = (p 0).val % 4
  omega

theorem set_rowOf_idx (j : ℕ) : (rowOf idxV j).view.set = rowSet j := by
  show (((View.whole (cc0_scratch1 : Ref sig .scVector)).slice (rowRect j)).reshape S128 squeezes_S1x128_S128.numel_eq).set = _
  rw [View.set_reshape, View.set_slice]; exact Finset.map_refl
theorem set_rowOf_val (j : ℕ) : (rowOf valV j).view.set = rowSet j := by
  show (((View.whole (cc0_scratch2 : Ref sig .scVector)).slice (rowRect j)).reshape S128 squeezes_S1x128_S128.numel_eq).set = _
  rw [View.set_reshape, View.set_slice]; exact Finset.map_refl

/-- Entry `x` of row `j` as an element of the buffer. -/
def rowEmb (j : ℕ) (x : S128.Idx) : S4x128.Idx := (rowRect j).emb (Shape.reshapeEquiv squeezes_S1x128_S128.numel_eq x)

theorem pos_rowEmb (j : ℕ) (x : S128.Idx) : pos (rowEmb j x) = 128 * (j % 4) + (x 0).val := by
  have hm := Shape.rowMajor_reshapeEquiv squeezes_S1x128_S128.numel_eq x
  generalize hy : Shape.reshapeEquiv squeezes_S1x128_S128.numel_eq x = y at hm
  have h0 : (y 0).val < 1 := (y 0).isLt
  have hy2 : (S1x128.rowMajor y).val = (y 0).val * 128 + (y 1).val := Shape.rowMajor_val_two (d := ![1, 128]) y
  have hx1 : (S128.rowMajor x).val = (x 0).val := Shape.rowMajor_val_one (d := ![128]) x
  have e0 : ((rowRect j).emb y 0).val = j % 4 + 1 * (y 0).val := Rect.emb_apply _ _ _
  have e1 : ((rowRect j).emb y 1).val = 0 + 1 * (y 1).val := Rect.emb_apply _ _ _
  unfold pos rowEmb
  rw [hy, e0, e1]; omega

/-- A row read: the words at its entries. -/
theorem read_rowOf_idx (j : ℕ) (f : S4x128.Idx → Elt F .i32) (x : S128.Idx) : (rowOf idxV j).view.read (Elt F) f x = f (rowEmb j x) := rfl

/-! ## The gathers' pieces -/

variable (d : Dev nD) (L : grid0.Coords) (Z : S13312.Idx → Elt F .f32) (A : S2097152.Idx → Elt F .f32)

theorem row_inRange (hz : SlotsOK Z) (j : ℕ) (x : S128.Idx) :
    ((rowOf idxV j).view.read (Elt F) (offsets L Z) x).toNat < S2097152.size gathers_S2097152_S128.axis := by
  have hx : (x 0).val < 128 := (x 0).isLt
  rw [read_rowOf_idx]
  show (offWord L Z (pos (rowEmb j x))).toNat < 2097152
  rw [pos_rowEmb]
  exact offWord_lt L Z hz (by omega)

theorem entries_pos : 0 < S128.size gathers_S2097152_S128.axis' := by decide

/-- Row `j`'s part of the table's share. -/
abbrev quarter (q : PosShare TreeShare) (j : ℕ) : PosShare TreeShare := pieceOf q 4 (by decide) ⟨j % 4, Nat.mod_lt _ (by decide)⟩

/-- What entry `e` of gather `j` gives back. -/
def entry (q : PosShare TreeShare) (fd : S4x128.Idx → Elt F .f32) (hz : SlotsOK Z) (j : ℕ) (e : Fin 128) : sProp 𝕄 :=
  GatherBatch.arrived (tile d L) (tableOf aV) (rowOf valV j) gathers_S2097152_S128 (rowOf idxV j) rfl (quarter q j) fullShare A fd (offsets L Z)
    (SparseCore.rows ((rowOf idxV j).view.read (Elt F) (offsets L Z)) rfl (row_inRange L Z hz j)) entries_pos e

instance entry_storable (q : PosShare TreeShare) (fd : S4x128.Idx → Elt F .f32) (hz : SlotsOK Z) (j : ℕ) (e : Fin 128) :
    Storable (upEmb : UEmb _ 𝕄) (entry d L Z A q fd hz j e) := by
  unfold entry; exact GatherBatch.arrived_storable ..

/-- The batch of the 512 entries of the four gathers. -/
def delivery (q : PosShare TreeShare) (fd : S4x128.Idx → Elt F .f32) (hz : SlotsOK Z) (t : Fin 512) : sProp 𝕄 :=
  entry d L Z A q fd hz (t.val / 128) ⟨t.val % 128, Nat.mod_lt _ (by decide)⟩

instance delivery_storable (q : PosShare TreeShare) (fd : S4x128.Idx → Elt F .f32) (hz : SlotsOK Z) (t : Fin 512) :
    Storable (upEmb : UEmb _ 𝕄) (delivery d L Z A q fd hz t) := by
  unfold delivery; infer_instance

theorem delivery_eq (q : PosShare TreeShare) (fd : S4x128.Idx → Elt F .f32) (hz : SlotsOK Z) (j : ℕ) (e : Fin 128) (t : Fin 512)
    (ht : t.val = 128 * j + e.val) : delivery d L Z A q fd hz t = entry d L Z A q fd hz j e := by
  have h1 : t.val / 128 = j := by have := e.isLt; omega
  have h2 : (⟨t.val % 128, Nat.mod_lt _ (by decide)⟩ : Fin 128) = e := Fin.ext (by show t.val % 128 = e.val; have := e.isLt; omega)
  unfold delivery
  rw [h1, h2]

/-- What gather `j` is given: its quarter of the table's share, its row of the word buffer, its row of the offset list. -/
def given (q : PosShare TreeShare) (fd : S4x128.Idx → Elt F .f32) (j : ℕ) : sProp 𝕄 :=
  iprop(((tableOf aV).view.loc (tile d L) ↦[(tableOf aV).view.set]{quarter q j} A)
    ∗ ((rowOf valV j).view.loc (tile d L) ↦[(rowOf valV j).view.set]{fullShare} fd)
    ∗ ((rowOf idxV j).view.loc (tile d L) ↦[(rowOf idxV j).view.set]{fullShare} (offsets L Z : S4x128.Idx → Elt F .i32)))

/-- The semaphore's units one entry's word raises it by. -/
abbrev unitN : ℕ := ((rowOf valV 0).slice (S128.rowRect gathers_S2097152_S128.axis' ⟨0, entries_pos⟩) (S128.stride_rowRect _ _)).view.dmaCredit

theorem unitN_eq (j : ℕ) (e : Fin 128) :
    ((rowOf valV j).slice (S128.rowRect gathers_S2097152_S128.axis' e) (S128.stride_rowRect _ _)).view.dmaCredit = unitN := rfl
theorem unitN_pos : 0 < unitN := by decide
theorem rowCredit_eq (j : ℕ) : (rowOf valV j).view.dmaCredit = 128 * unitN := by
  show (rowOf valV 0).view.dmaCredit = 128 * unitN
  decide

/-- The batch after `k` gathers are started and `u` of them waited for. -/
abbrev batch (q : PosShare TreeShare) (fd : S4x128.Idx → Elt F .f32) (hz : SlotsOK Z) (k u : ℕ) : sProp 𝕄 :=
  Transfers.Batch countersEmb (tile d L) (.dma cc0_scratch3.sem) (default : HIx 1) unitN (delivery d L Z A q fd hz) (128 * k) (u * (128 * unitN))

theorem startGather_step (q : PosShare TreeShare) (fd : S4x128.Idx → Elt F .f32) (hz : SlotsOK Z) {j : ℕ} (hj : j < 4) :
    iprop(bigSep (Transfers.pending (n := 4) j) (fun t => given d L Z A q fd t.val) ∗ batch d L Z A q fd hz j 0)
      ⊢ (WP d L (startGather L aV idxV valV cc0_scratch3 j) fun _ =>
          iprop(bigSep (Transfers.pending (n := 4) (j + 1)) (fun t => given d L Z A q fd t.val) ∗ batch d L Z A q fd hz (j + 1) 0) : sProp 𝕄) := by
  rw [Transfers.bigSep_pending_step _ j hj]
  unfold given
  iintro ⟨⟨⟨Hs, Hd, Ho⟩, Hrest⟩, HB⟩
  rw [show startGather (F := F) L aV idxV valV cc0_scratch3 j = (startGather L aV idxV valV cc0_scratch3 j >>= pure) from (bind_pure _).symm]
  unfold WP startGather
  iapply (GatherBatch.wp_gather countersEmb 𝒱₀ (tile d L) none (n := 512) (D := delivery d L Z A q fd hz) (default : HIx 1) (unitN_eq j) entries_pos (row_inRange L Z hz j)
    (k₀ := 128 * j) (u := 0 * (128 * unitN)) (show 128 * j + 128 ≤ 512 by omega) (by omega) (fun e => Entails.of_eq (delivery_eq d L Z A q fd hz j e _ rfl).symm)) $$ [Hs Hd Ho HB]
  · isplitl [Hs]; · iexact Hs
    isplitl [Hd]; · iexact Hd
    isplitl [Ho]; · iexact Ho
    iexact HB
  iintro HB
  rw [wp_pure]; imodintro
  isplitl [Hrest]; · iexact Hrest
  iexact HB

/-! ## The waits -/

/-- What the tile owes while it waits: the recorded waits beyond `W` are its own. -/
abbrev waited (O : CellTallies nD τ sig (HIx 1)) (W : Waits sig (HIx 1)) : sProp 𝕄 :=
  iprop(∃ W', ⌜∀ p ∈ W', p ∈ W ∨ p.2 = none⌝ ∗ owes (tile d L) O W')

/-- One more wait of the tile's own. -/
theorem waited_insert (O : CellTallies nD τ sig (HIx 1)) (W W' : Waits sig (HIx 1)) (hW : ∀ p ∈ W', p ∈ W ∨ p.2 = none) (g : SemLoc sig) :
    owes (tile d L) O (insert (g, (default : HIx 1)) W') ⊢ (waited d L O W : sProp 𝕄) := by
  iintro HO
  iexists _
  isplitr
  swap
  · iexact HO
  ipureintro
  intro p hp
  rcases Finset.mem_insert.mp hp with hp | hp
  · exact .inr (hp ▸ rfl)
  · exact hW p hp

theorem awaitGather_step (q : PosShare TreeShare) (fd : S4x128.Idx → Elt F .f32) (hz : SlotsOK Z) (O : CellTallies nD τ sig (HIx 1)) (W : Waits sig (HIx 1))
    {j : ℕ} (hj : j < 4) :
    iprop(Transfers.MayWaits (tile d L) (default : HIx 1) O ∗ batch d L Z A q fd hz 4 j ∗ waited d L O W)
      ⊢ (WP d L (awaitGather L aV valV cc0_scratch3 j) fun _ =>
          iprop(Transfers.MayWaits (tile d L) (default : HIx 1) O ∗ batch d L Z A q fd hz 4 (j + 1) ∗ waited d L O W) : sProp 𝕄) := by
  have hu : j * (128 * unitN) + 128 * unitN ≤ unitN * (128 * 4) := by
    have h1 : (j + 1) * (128 * unitN) ≤ 4 * (128 * unitN) := Nat.mul_le_mul_right _ hj
    rw [Nat.add_mul, Nat.one_mul] at h1
    rw [Nat.mul_comm unitN, show 128 * 4 * unitN = 4 * (128 * unitN) by omega]
    exact h1
  iintro ⟨#Hmw, HB, %W', %hW, HO⟩
  rw [show awaitGather (F := F) L aV valV cc0_scratch3 j = (awaitGather L aV valV cc0_scratch3 j >>= pure) from (bind_pure _).symm]
  unfold WP awaitGather
  rw [SparseCore.waitIndirectGather_bind (c := tile d L)]
  iapply (Transfers.wp_waitBatchMulO countersEmb 𝒱₀ (tile d L) none (default : HIx 1) 128 (rowCredit_eq j) hu) $$ [HB HO]
  · isplitl [HB]; · iexact HB
    isplitl [HO]; · iexact HO
    iapply (Transfers.MayWaits.elim (SemLoc.dma cc0_scratch3.sem)) $$ Hmw
  iintro ⟨HB, HO⟩
  rw [wp_pure]; imodintro
  isplitr; · iexact Hmw
  isplitl [HB]
  · unfold batch
    rw [Nat.add_mul j 1, Nat.one_mul]
    iexact HB
  · iapply (waited_insert d L O W W' hW) $$ HO

/-! ## The gathers together -/

/-- A share of the table is its four quarters. -/
theorem table_quarters (q : PosShare TreeShare) :
    (aLoc d ↦[(tableOf aV).view.set]{q} A : sProp 𝕄) = bigSep Finset.univ fun t : Fin 4 => aLoc d ↦[(tableOf aV).view.set]{quarter q t.val} A := by
  rw [pointsTo_piecesOf (ℓ := aLoc d) (tableOf aV).view.set A (o := 4) (by decide) q]
  refine bigSep_congr fun t _ => ?_
  exact congrArg (fun t' => (aLoc d ↦[(tableOf aV).view.set]{pieceOf q 4 (by decide) t'} A : sProp 𝕄)) (Fin.ext (Nat.mod_eq_of_lt t.isLt).symm)

/-- The word buffer is its four rows. -/
theorem val_rows (f : S4x128.Idx → Elt F .f32) :
    ((tile d L).loc cc0_scratch2 ↦{fullShare} f : sProp 𝕄)
      = bigSep Finset.univ fun t : Fin 4 => (tile d L).loc cc0_scratch2 ↦[(rowOf valV t.val).view.set]{fullShare} f := by
  rw [bigSep_congr (Ψ := fun t : Fin 4 => ((tile d L).loc cc0_scratch2 ↦[rowSet t.val]{fullShare} f : sProp 𝕄)) fun t _ => by rw [set_rowOf_val],
    ← pointsTo_biUnion Finset.univ (ℓ := (tile d L).loc cc0_scratch2) (fun t : Fin 4 => rowSet t.val) rowSet_disjoint]
  exact congrArg (fun S => ((tile d L).loc cc0_scratch2 ↦[S]{fullShare} f : sProp 𝕄)) rowSet_cover.symm

/-- The offset buffer is its four rows. -/
theorem idx_rows (f : S4x128.Idx → Elt F .i32) :
    ((tile d L).loc cc0_scratch1 ↦{fullShare} f : sProp 𝕄)
      = bigSep Finset.univ fun t : Fin 4 => (tile d L).loc cc0_scratch1 ↦[(rowOf idxV t.val).view.set]{fullShare} f := by
  rw [bigSep_congr (Ψ := fun t : Fin 4 => ((tile d L).loc cc0_scratch1 ↦[rowSet t.val]{fullShare} f : sProp 𝕄)) fun t _ => by rw [set_rowOf_idx],
    ← pointsTo_biUnion Finset.univ (ℓ := (tile d L).loc cc0_scratch1) (fun t : Fin 4 => rowSet t.val) rowSet_disjoint]
  exact congrArg (fun S => ((tile d L).loc cc0_scratch1 ↦[S]{fullShare} f : sProp 𝕄)) rowSet_cover.symm

/-- The tile's memory before the first gather is what the four gathers are given. -/
theorem given_all (q : PosShare TreeShare) (fd : S4x128.Idx → Elt F .f32) :
    iprop((aLoc d ↦[(tableOf aV).view.set]{q} A) ∗ ((tile d L).loc cc0_scratch2 ↦{fullShare} fd)
        ∗ ((tile d L).loc cc0_scratch1 ↦{fullShare} (offsets L Z : S4x128.Idx → Elt F .i32)))
      ⊢ (bigSep (Transfers.pending (n := 4) 0) (fun t => given d L Z A q fd t.val) : sProp 𝕄) := by
  rw [Transfers.pending_zero, table_quarters d A q, val_rows d L fd, idx_rows d L (offsets L Z)]
  unfold given
  iintro ⟨Ha, Hv, Hi⟩
  ihave H := Transfers.bigSep_sep_in _ _ _ $$ [Hv Hi]
  · isplitl [Hv] <;> iassumption
  iapply (Transfers.bigSep_sep_in _ _ _)
  isplitl [Ha] <;> iassumption

/-- Row `j` of the word buffer as its gather leaves it: the gathered words. -/
theorem landed_row (fd : S4x128.Idx → Elt F .f32) (hz : SlotsOK Z) (j : ℕ) (p : S4x128.Idx) (hp : p ∈ (rowOf valV j).view.set) :
    (rowOf valV j).view.write (Elt F) fd (SparseCore.gatherPayload gathers_S2097152_S128 ((tableOf aV).view.read (Elt F) A)
        (SparseCore.rows ((rowOf idxV j).view.read (Elt F) (offsets L Z)) rfl (row_inRange L Z hz j))) Finset.univ p
      = gathered L Z A p := by
  obtain ⟨x, -, rfl⟩ := Finset.mem_map.mp hp
  rw [View.write_emb_of_mem _ _ (Finset.mem_univ x)]
  show A _ = gathered L Z A (rowEmb j x)
  unfold gathered
  refine congrArg A ?_
  have hx : (x 0).val < 128 := (x 0).isLt
  have hlt : (offWord L Z (pos (rowEmb j x))).toNat < 2097152 := by
    rw [pos_rowEmb]; exact offWord_lt L Z hz (by omega)
  have hv : (SparseCore.rows (o := 128) ((rowOf idxV j).view.read (Elt F) (offsets L Z)) rfl (row_inRange L Z hz j) (x 0)).val = (offWord L Z (pos (rowEmb j x))).toNat := by
    show (offWord L Z (pos (rowEmb j (S128.rowMajor.symm ((x 0).cast _))))).toNat = _
    refine congrArg (fun y => (offWord L Z (pos (rowEmb j y))).toNat) ?_
    refine S128.rowMajor.injective (Fin.ext ?_)
    rw [Equiv.apply_symm_apply]
    exact (Shape.rowMajor_val_one (d := ![128]) x).symm
  funext a
  refine Fin.ext ?_
  match a with
  | ⟨0, _⟩ =>
    refine Eq.trans ?_ (Nat.mod_eq_of_lt hlt).symm
    rw [← hv]
    refine (Rect.emb_apply (Rect.unit (s := S2097152) ![0] S2097152.size inb_S2097152_S2097152_0) _ 0).trans ?_
    refine ((Nat.zero_add _).trans (Nat.one_mul _)).trans ?_
    exact congrArg Fin.val (Shape.Gathers.idx_axis gathers_S2097152_S128 _ x)

/-- All entries delivered is the tile's memory with the gathered words in place. -/
theorem delivered_all (q : PosShare TreeShare) (fd : S4x128.Idx → Elt F .f32) (hz : SlotsOK Z) :
    bigSep Finset.univ (delivery d L Z A q fd hz)
      ⊢ (iprop((aLoc d ↦[(tableOf aV).view.set]{q} A) ∗ ((tile d L).loc cc0_scratch2 ↦{fullShare} gathered L Z A)
        ∗ ((tile d L).loc cc0_scratch1 ↦{fullShare} (offsets L Z : S4x128.Idx → Elt F .i32))) : sProp 𝕄) := by
  have hsplit : (bigSep Finset.univ (delivery d L Z A q fd hz) : sProp 𝕄)
      = bigSep Finset.univ fun t : Fin 4 => bigSep Finset.univ fun e : Fin 128 => entry d L Z A q fd hz t.val e := by
    rw [bigSep_univ_equiv (finProdFinEquiv (m := 4) (n := 128)) (delivery d L Z A q fd hz), bigSep_univ_prod]
    refine bigSep_congr fun t _ => bigSep_congr fun e _ => delivery_eq d L Z A q fd hz t.val e _ ?_
    show e.val + 128 * t.val = 128 * t.val + e.val
    omega
  have hrow : ∀ t ∈ (Finset.univ : Finset (Fin 4)), (bigSep Finset.univ fun e : Fin 128 => entry d L Z A q fd hz t.val e)
      ⊢ (iprop(((tile d L).loc cc0_scratch2 ↦[(rowOf valV t.val).view.set]{fullShare} gathered L Z A)
        ∗ (aLoc d ↦[(tableOf aV).view.set]{quarter q t.val} A)
        ∗ (tile d L).loc cc0_scratch1 ↦[(rowOf idxV t.val).view.set]{fullShare} (offsets L Z : S4x128.Idx → Elt F .i32)) : sProp 𝕄) := by
    intro t _
    have h := GatherBatch.arrived_all (U := UU) (Ix := HIx 1) (Name := ℕ) (Lvl := ℕ) (tile d L) (tableOf aV) (rowOf valV t.val) gathers_S2097152_S128 (rowOf idxV t.val) rfl (quarter q t.val) fullShare A fd (offsets L Z)
      (SparseCore.rows ((rowOf idxV t.val).view.read (Elt F) (offsets L Z)) rfl (row_inRange L Z hz t.val)) entries_pos
    rw [pointsTo_congr (fun p hp => landed_row L Z A fd hz t.val p hp)] at h
    exact h
  rw [hsplit, table_quarters d A q, val_rows d L (gathered L Z A), idx_rows d L (offsets L Z)]
  have hall : (bigSep Finset.univ fun t : Fin 4 => bigSep Finset.univ fun e : Fin 128 => entry d L Z A q fd hz t.val e)
      ⊢ (bigSep Finset.univ fun t : Fin 4 => iprop(((tile d L).loc cc0_scratch2 ↦[(rowOf valV t.val).view.set]{fullShare} gathered L Z A)
        ∗ (aLoc d ↦[(tableOf aV).view.set]{quarter q t.val} A)
        ∗ (tile d L).loc cc0_scratch1 ↦[(rowOf idxV t.val).view.set]{fullShare} (offsets L Z : S4x128.Idx → Elt F .i32)) : sProp 𝕄) := bigSep_mono hrow
  iintro H
  ihave H := hall $$ H
  ihave H := Transfers.bigSep_sep_out _ _ _ $$ H
  icases H with ⟨Hv, H⟩
  ihave H := Transfers.bigSep_sep_out _ _ _ $$ H
  icases H with ⟨Ha, Hi⟩
  isplitl [Ha]; · iexact Ha
  isplitl [Hv]; · iexact Hv
  iexact Hi

end Cert.KernelIdeal.Tile

end
-- ==== Proof.KernelIdeal.Tile.lean ====
/-
  One tile's whole program: what it leaves in its four rows of the result.
-/
module

public import proofs.«01_k».proof.Proof.KernelIdeal.Steps
public import proofs.«01_k».proof.Proof.KernelIdeal.Copies
public import proofs.«01_k».proof.Proof.KernelIdeal.Streams

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

theorem set_table : (tableOf aV).view.set = Finset.univ := by
  show ((View.whole (main_v1_scv : Ref sig .scVector)).slice _).set = _
  rw [View.set_slice]
  refine Finset.eq_univ_of_forall fun p => ?_
  refine Finset.mem_map.mpr ⟨p, Rect.mem_set_unit.mpr fun a => ?_, rfl⟩
  match a with
  | ⟨0, _⟩ =>
    have h : (p 0).val < 2097152 := (p 0).isLt
    show 0 ≤ (p 0).val ∧ (p 0).val < 0 + 2097152
    omega

/-- The words the tile computes, of its slots and the flat tables. -/
def words (Zf : S425984.Idx → Elt F .f32) (A : S2097152.Idx → Elt F .f32) : S4x128.Idx → Elt F .f32 :=
  scaled (gathered L (slotsOf L Zf) A)

/-- The fill leaves the whole offset list. -/
theorem fill_all (Z : S13312.Idx → Elt F .f32) (I0 : S4x128.Idx → Elt F .i32) :
    iprop(((tile d L).loc cc0_scratch0 ↦{fullShare} Z) ∗ ((tile d L).loc cc0_scratch1 ↦{fullShare} I0))
      ⊢ (WP d L (steps (fillChunk L slotV idxV) 0 32) fun _ => iprop(((tile d L).loc cc0_scratch0 ↦{fullShare} Z)
          ∗ ((tile d L).loc cc0_scratch1 ↦{fullShare} (offsets L Z : S4x128.Idx → Elt F .i32))) : sProp 𝕄) := by
  have h := wp_steps d L (fillChunk L slotV idxV) (fun c => iprop(((tile d L).loc cc0_scratch0 ↦{fullShare} Z) ∗ idxAt d L Z I0 c)) 32 0
    fun c _ hc => fillChunk_step d L Z I0 (by omega)
  simp only [Nat.zero_add, idxAt, filled_zero, filled_all] at h
  exact h

/-- The scaling scales every word. -/
theorem scale_all (G : S4x128.Idx → Elt F .f32) :
    ((tile d L).loc cc0_scratch2 ↦{fullShare} G)
      ⊢ (WP d L (steps (scaleChunk L valV) 0 32) fun _ => ((tile d L).loc cc0_scratch2 ↦{fullShare} (scaled G : S4x128.Idx → Elt F .f32)) : sProp 𝕄) := by
  have h := wp_steps d L (scaleChunk L valV) (fun c => valAt d L G c) 32 0 fun c _ hc => scaleChunk_step d L G (by omega)
  simp only [Nat.zero_add, valAt, filled_zero, filled_all] at h
  exact h

/-- Starting the four gathers. -/
theorem start_all (Z : S13312.Idx → Elt F .f32) (A : S2097152.Idx → Elt F .f32) (q : PosShare TreeShare) (fd : S4x128.Idx → Elt F .f32) (hz : SlotsOK Z) :
    iprop(((aLoc d ↦[(tableOf aV).view.set]{q} A) ∗ ((tile d L).loc cc0_scratch2 ↦{fullShare} fd)
        ∗ ((tile d L).loc cc0_scratch1 ↦{fullShare} (offsets L Z : S4x128.Idx → Elt F .i32)))
        ∗ Transfers.Batch countersEmb (tile d L) (.dma cc0_scratch3.sem) (default : HIx 1) unitN (delivery d L Z A q fd hz) 0 0)
      ⊢ (WP d L (steps (startGather L aV idxV valV cc0_scratch3) 0 4) fun _ => batch d L Z A q fd hz 4 0 : sProp 𝕄) := by
  have h := wp_steps d L (startGather L aV idxV valV cc0_scratch3)
    (fun j => iprop(bigSep (Transfers.pending (n := 4) j) (fun t => given d L Z A q fd t.val) ∗ batch d L Z A q fd hz j 0)) 4 0
    fun j _ hj => startGather_step d L Z A q fd hz (by omega)
  iintro ⟨Hm, HB⟩
  iapply (wp_wand_r frame (wpE (defs₀ (F := F)) 𝒱₀ (tile d L) none) Set.univ)
  isplitl [Hm HB]
  · iapply h
    isplitl [Hm]
    · iapply (given_all d L Z A q fd) $$ Hm
    · unfold batch
      rw [Nat.mul_zero, Nat.zero_mul]
      iexact HB
  · iintro %_ ⟨-, HB⟩
    iexact HB

/-- Waiting for the four gathers: every unit of the batch is consumed. -/
theorem await_all (Z : S13312.Idx → Elt F .f32) (A : S2097152.Idx → Elt F .f32) (q : PosShare TreeShare) (fd : S4x128.Idx → Elt F .f32) (hz : SlotsOK Z)
    (O : CellTallies nD τ sig (HIx 1)) (W : Waits sig (HIx 1)) :
    iprop(Transfers.MayWaits (tile d L) (default : HIx 1) O ∗ batch d L Z A q fd hz 4 0 ∗ waited d L O W)
      ⊢ (WP d L (steps (awaitGather L aV valV cc0_scratch3) 0 4) fun _ =>
          iprop(Transfers.Batch countersEmb (tile d L) (.dma cc0_scratch3.sem) (default : HIx 1) unitN (delivery d L Z A q fd hz) 512 (unitN * 512)
            ∗ waited d L O W) : sProp 𝕄) := by
  have h := wp_steps d L (awaitGather L aV valV cc0_scratch3)
    (fun j => iprop(Transfers.MayWaits (tile d L) (default : HIx 1) O ∗ batch d L Z A q fd hz 4 j ∗ waited d L O W)) 4 0
    fun j _ hj => awaitGather_step d L Z A q fd hz O W (by omega)
  iintro H
  iapply (wp_wand_r frame (wpE (defs₀ (F := F)) 𝒱₀ (tile d L) none) Set.univ)
  isplitl [H]
  · iapply h $$ H
  · iintro %_ ⟨-, HB, HO⟩
    isplitl [HB]
    · unfold batch
      rw [show unitN * 512 = (0 + 4) * (128 * unitN) by omega]
      iexact HB
    · iexact HO

/-- The tile's program, from its part of the flat slot table, a share of the flat table and its rows of the result:
    it terminates, its rows of the result hold its words, everything else is as it was. -/
theorem tile_body (hF : (K (F := F)).Facts) (Zf : S425984.Idx → Elt F .f32) (A : S2097152.Idx → Elt F .f32) (fo : S32x4x128.Idx → Elt F .f32)
    (hz : SlotsOK (slotsOf L Zf)) (q : PosShare TreeShare) (O : CellTallies nD τ sig (HIx 1)) (W : Waits sig (HIx 1)) (hO : ∀ g, O g none = 0) :
    iprop(levAts (K (F := F)).L (K (F := F)).lev ∗ emp
        ∗ ((zLoc d ↦[(zPart L).view.set]{fullShare} Zf) ∗ (aLoc d ↦{q} A) ∗ (oLoc d ↦[(outOf L oV).view.set]{fullShare} fo))
        ∗ scopedBufs (tile d L) ∗ scopedSems0 (tile d L) ∗ owes (tile d L) O W)
      ⊢ (WP d L
          (cc0_sc_gather L zV (Memref.isWhole_whole _) aV (Memref.isWhole_whole _) oV (Memref.isWhole_whole _)
            slotV (Memref.isWhole_whole _) idxV (Memref.isWhole_whole _) valV (Memref.isWhole_whole _) cc0_scratch3 cc0_scoped0 cc0_scoped1)
          fun _ => iprop(((zLoc d ↦[(zPart L).view.set]{fullShare} Zf) ∗ (aLoc d ↦{q} A) ∗ (oLoc d ↦[(outOf L oV).view.set]{fullShare} outWritten L (words L Zf A) fo))
            ∗ scopedBufs (tile d L) ∗ scopedSems0 (tile d L)
            ∗ ∃ W', ⌜∀ p ∈ W', p ∈ W ∨ p.2 = none⌝ ∗ owes (tile d L) O W') : sProp 𝕄) := by
  unfold WP
  rw [body_eq, (K (F := F)).scopedBufs_V hF d (cV L) (jV L), SparseCore.Cfg.scopedSems0_V (Val := Elt F) d (cV L) (jV L), ownSems0_tile, ownBufs_tile]
  unfold body
  rw [wp_bind, wp_bind, wp_bind, wp_bind, wp_bind]
  iintro ⟨#Hlv, -, ⟨Hz, Ha, Ho⟩, ⟨⟨%fs, Hs⟩, ⟨%fi, Hi⟩, ⟨%fv, Hv⟩, Hbufs⟩, ⟨HsemG, HsemF, HsemW, Hsems⟩, HO⟩
  ihave #Hmw := (show levAts (K (F := F)).L (K (F := F)).lev ⊢ Transfers.MayWaits (tile d L) (default : HIx 1) O from
    (K (F := F)).mayWaits_none (thr := tile d L) hO) $$ Hlv
  -- the slots
  iapply (wp_wand_r frame (wpE (defs₀ (F := F)) 𝒱₀ (tile d L) none) Set.univ)
  isplitl [Hz Hs HsemF HO]
  · iapply (fetch_step d L Zf fs fullShare O W)
    isplitl [Hz]; · iexact Hz
    isplitl [Hs]; · iexact Hs
    isplitl [HsemF]; · iexact HsemF
    isplitr; · iexact Hmw
    iexact HO
  iintro %_ ⟨Hz, Hs, HsemF, HO⟩
  -- the offset list
  iapply (wp_wand_r frame (wpE (defs₀ (F := F)) 𝒱₀ (tile d L) none) Set.univ)
  isplitl [Hs Hi]
  · iapply (fill_all d L (slotsOf L Zf) fi)
    isplitl [Hs]; · iexact Hs
    iexact Hi
  iintro %_ ⟨Hs, Hi⟩
  -- the gathers
  imod (Transfers.batch_alloc' countersEmb (tile d L) (default : HIx 1) unitN (delivery d L (slotsOf L Zf) A q fv hz)) $$ HsemG with HB
  iapply (wp_wand_r frame (wpE (defs₀ (F := F)) 𝒱₀ (tile d L) none) Set.univ)
  isplitl [Ha Hv Hi HB]
  · iapply (start_all d L (slotsOf L Zf) A q fv hz)
    isplitr [HB]
    · rw [set_table]
      isplitl [Ha]; · iexact Ha
      isplitl [Hv]; · iexact Hv
      iexact Hi
    · iexact HB
  iintro %_ HB
  iapply (wp_wand_r frame (wpE (defs₀ (F := F)) 𝒱₀ (tile d L) none) Set.univ)
  isplitl [HB HO]
  · iapply (await_all d L (slotsOf L Zf) A q fv hz O W)
    isplitr; · iexact Hmw
    isplitl [HB]; · iexact HB
    iapply (waited_insert d L O W W (fun _ h => .inl h) (SemLoc.dma cc0_scoped0.sem)) $$ HO
  iintro %_ ⟨HB, HO⟩
  imod (Transfers.batch_collect' countersEmb (tile d L) unitN_pos) $$ HB with ⟨HD, HsemG⟩
  ihave H := (delivered_all d L (slotsOf L Zf) A q fv hz) $$ HD
  icases H with ⟨Ha, Hv, Hi⟩
  -- the scaling
  iapply (wp_wand_r frame (wpE (defs₀ (F := F)) 𝒱₀ (tile d L) none) Set.univ)
  isplitl [Hv]
  · iapply (scale_all d L (gathered L (slotsOf L Zf) A)) $$ Hv
  iintro %_ Hv
  -- the words
  icases HO with ⟨%W', %hW, HO⟩
  iapply (wp_wand_r frame (wpE (defs₀ (F := F)) 𝒱₀ (tile d L) none) Set.univ)
  isplitl [Ho Hv HsemW HO]
  · iapply (writeOut_step d L (words L Zf A) fo O W')
    isplitl [Ho]; · iexact Ho
    isplitl [Hv]; · iexact Hv
    isplitl [HsemW]; · iexact HsemW
    isplitr; · iexact Hmw
    iexact HO
  iintro %_ ⟨Ho, Hv, HsemW, HO⟩
  isplitl [Hz Ha Ho]
  · isplitl [Hz]; · iexact Hz
    isplitl [Ha]
    · rw [set_table]; iexact Ha
    iexact Ho
  isplitl [Hs Hi Hv Hbufs]
  · isplitl [Hs]; · iexists _; iexact Hs
    isplitl [Hi]; · iexists _; iexact Hi
    isplitl [Hv]; · iexists _; iexact Hv
    iexact Hbufs
  isplitl [HsemG HsemF HsemW Hsems]
  · isplitl [HsemG]; · iexact HsemG
    isplitl [HsemF]; · iexact HsemF
    isplitl [HsemW]; · iexact HsemW
    iexact Hsems
  iapply (waited_insert d L O W W' hW (SemLoc.dma cc0_scoped1.sem)) $$ HO

end Cert.KernelIdeal.Tile

end
-- ==== Proof.KernelIdeal.Pieces.lean ====
/-
  The tiles' parts of the flat arrays, and the words the tiles leave as a function of the two arguments.
-/
module

public import proofs.«01_k».proof.Proof.KernelIdeal.Tile

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The tiles of a device -/

/-- The grid point of SparseCore `c`'s vector subcore `s`. -/
def coordsV (c : Fin 2) (s : Fin 16) : grid0.Coords :=
  fun | 0 => c | 1 => s | ⟨_ + 2, h⟩ => absurd h (Nat.not_lt.2 (Nat.le_add_left _ _))

/-- A tile's number: the 32 tiles count across the SparseCores first. -/
def rank (L : grid0.Coords) : ℕ := 2 * (L 1).val + (L 0).val

theorem rank_lt (L : grid0.Coords) : rank L < 32 := by
  have h0 : (L 0).val < 2 := (L 0).isLt
  have h1 : (L 1).val < 16 := (L 1).isLt
  unfold rank; omega

/-- The tile of a device, by SparseCore and vector subcore. -/
def at2 (t : Fin 2 × Fin 16) : grid0.Coords := coordsV t.1 t.2

theorem rank_at2 (t : Fin 2 × Fin 16) : rank (at2 t) = 2 * t.2.val + t.1.val := rfl

theorem rank_at2_inj {t t' : Fin 2 × Fin 16} (h : rank (at2 t) = rank (at2 t')) : t = t' := by
  rw [rank_at2, rank_at2] at h
  have h1 := t.1.isLt
  have h2 := t'.1.isLt
  exact Prod.ext (Fin.ext (by omega)) (Fin.ext (by omega))

/-- Every number below 32 is a tile's. -/
theorem exists_at2 {n : ℕ} (h : n < 32) : ∃ t, rank (at2 t) = n :=
  ⟨(⟨n % 2, by omega⟩, ⟨n / 2, by omega⟩), by rw [rank_at2]; show 2 * (n / 2) + n % 2 = n; omega⟩

/-! ## The parts of the arrays -/

/-- The elements of the flat slot table a tile fetches. -/
abbrev zSet (L : grid0.Coords) : Finset S425984.Idx := (zPart L).view.set
/-- The elements of the result a tile writes. -/
abbrev oSet (L : grid0.Coords) : Finset S32x4x128.Idx := (outOf L oV).view.set

theorem mem_zSet {L : grid0.Coords} {p : S425984.Idx} : p ∈ zSet L ↔ (p 0).val / 13312 = rank L := by
  have hs : zSet L = (zRect L).set := by
    show ((View.whole (main_v0_scv : Ref sig .scVector)).slice (zRect L)).set = _
    rw [View.set_slice]; exact Finset.map_refl
  rw [hs, Rect.mem_set_unit, k0_off1_eq]
  unfold rank
  constructor
  · intro h
    have a0 : 26624 * (L 1).val + 13312 * (L 0).val ≤ (p 0).val ∧ (p 0).val < 26624 * (L 1).val + 13312 * (L 0).val + 13312 := h 0
    omega
  · intro h a
    match a with
    | ⟨0, _⟩ =>
      show 26624 * (L 1).val + 13312 * (L 0).val ≤ (p 0).val ∧ (p 0).val < 26624 * (L 1).val + 13312 * (L 0).val + 13312
      omega

abbrev oRect (L : grid0.Coords) : Rect S32x4x128 := Rect.unit (s := S32x4x128) (k0_off2 L) S1x4x128.size (k0_off2_inb L)

theorem mem_oSet {L : grid0.Coords} {p : S32x4x128.Idx} : p ∈ oSet L ↔ (p 0).val = rank L := by
  have hs : oSet L = (oRect L).set := by
    show (((View.whole (main_v2_scv : Ref sig .scVector)).slice (oRect L)).reshape S4x128 squeezes_S1x4x128_S4x128.numel_eq).set = _
    rw [View.set_reshape, View.set_slice]; exact Finset.map_refl
  have h1 : (p 1).val < 4 := (p 1).isLt
  have h2 : (p 2).val < 128 := (p 2).isLt
  rw [hs, Rect.mem_set_unit, k0_off2_eq]
  unfold rank
  constructor
  · intro h
    have a0 : 2 * (L 1).val + (L 0).val ≤ (p 0).val ∧ (p 0).val < 2 * (L 1).val + (L 0).val + 1 := h 0
    omega
  · intro h a
    match a with
    | ⟨0, _⟩ => show 2 * (L 1).val + (L 0).val ≤ (p 0).val ∧ (p 0).val < 2 * (L 1).val + (L 0).val + 1; omega
    | ⟨1, _⟩ => show 0 ≤ (p 1).val ∧ (p 1).val < 0 + 4; omega
    | ⟨2, _⟩ => show 0 ≤ (p 2).val ∧ (p 2).val < 0 + 128; omega

/-- The slot table is its 32 parts. -/
theorem z_parts (d : Dev nD) (f : S425984.Idx → Elt F .f32) :
    (zLoc d ↦{fullShare} f : sProp 𝕄) = bigSep Finset.univ fun c : Fin 2 => bigSep Finset.univ fun s : Fin 16 => zLoc d ↦[zSet (coordsV c s)]{fullShare} f := by
  have hcov : (Finset.univ : Finset (Fin 2 × Fin 16)).biUnion (fun t => zSet (at2 t)) = Finset.univ :=
    Finset.eq_univ_of_forall fun p => by
      have hp : (p 0).val < 425984 := (p 0).isLt
      obtain ⟨t, ht⟩ := exists_at2 (n := (p 0).val / 13312) (by omega)
      exact Finset.mem_biUnion.mpr ⟨t, Finset.mem_univ _, mem_zSet.mpr ht.symm⟩
  have h := pointsTo_biUnion (q := fullShare) (ℓ := zLoc d) (f := f) (Ix := HIx 1) (Name := ℕ) (U := UU) (Lvl := ℕ) (Finset.univ : Finset (Fin 2 × Fin 16)) (fun t => zSet (at2 t))
    fun t _ t' _ hne => Finset.disjoint_left.mpr fun p h h' => hne (rank_at2_inj ((mem_zSet.mp h).symm.trans (mem_zSet.mp h')))
  rw [hcov, bigSep_univ_prod] at h
  exact h

/-- The result is its 32 parts. -/
theorem o_parts (d : Dev nD) (f : S32x4x128.Idx → Elt F .f32) :
    (oLoc d ↦{fullShare} f : sProp 𝕄) = bigSep Finset.univ fun c : Fin 2 => bigSep Finset.univ fun s : Fin 16 => oLoc d ↦[oSet (coordsV c s)]{fullShare} f := by
  have hcov : (Finset.univ : Finset (Fin 2 × Fin 16)).biUnion (fun t => oSet (at2 t)) = Finset.univ :=
    Finset.eq_univ_of_forall fun p => by
      obtain ⟨t, ht⟩ := exists_at2 (n := (p 0).val) (p 0).isLt
      exact Finset.mem_biUnion.mpr ⟨t, Finset.mem_univ _, mem_oSet.mpr ht.symm⟩
  have h := pointsTo_biUnion (q := fullShare) (ℓ := oLoc d) (f := f) (Ix := HIx 1) (Name := ℕ) (U := UU) (Lvl := ℕ) (Finset.univ : Finset (Fin 2 × Fin 16)) (fun t => oSet (at2 t))
    fun t _ t' _ hne => Finset.disjoint_left.mpr fun p h h' => hne (rank_at2_inj ((mem_oSet.mp h).symm.trans (mem_oSet.mp h')))
  rw [hcov, bigSep_univ_prod] at h
  exact h

/-- A tile's share of the table: one of 32. -/
def share (L : grid0.Coords) : PosShare TreeShare := pieceOf fullShare 32 (by decide) ⟨rank L, rank_lt L⟩

/-- The table whole is its 32 shares. -/
theorem a_shares (d : Dev nD) (f : S2097152.Idx → Elt F .f32) :
    (aLoc d ↦{fullShare} f : sProp 𝕄) = bigSep Finset.univ fun c : Fin 2 => bigSep Finset.univ fun s : Fin 16 => aLoc d ↦{share (coordsV c s)} f := by
  let e : Fin 2 × Fin 16 ≃ Fin 32 := Equiv.ofBijective (fun t => ⟨rank (at2 t), rank_lt _⟩)
    ⟨fun _ _ h => rank_at2_inj (Fin.mk.inj h), fun n => (exists_at2 n.isLt).imp fun _ h => Fin.ext h⟩
  have h := pointsTo_piecesOf (ℓ := aLoc d) (Ix := HIx 1) (Name := ℕ) (U := UU) (Lvl := ℕ) Finset.univ f (o := 32) (by decide) fullShare
  rw [bigSep_univ_equiv e, bigSep_univ_prod] at h
  exact h

/-! ## The words, of the two arguments -/

variable (z : S16384x26.Idx → Elt F .f32) (a : S16384x128.Idx → Elt F .f32)

/-- Row `r`'s slot: the first word of the row of the slot table. -/
def slotWord (r : Fin 16384) : BitVec 32 := FloatOps.fptosi (φ := .f32) 32 (z (fun | 0 => r | 1 => ⟨0, by decide⟩))

/-- Every row's slot is one of the table's 128 columns. -/
def RowsOK : Prop := ∀ r, (slotWord z r).toNat < 128

/-- What the kernel computes: of each row of the table the word at the row's slot, scaled. -/
def picked : S16384.Idx → Elt F .f32 :=
  fun r => scaleWord (a (fun | 0 => r 0 | 1 => ⟨(slotWord z (r 0)).toNat % 128, Nat.mod_lt _ (by decide)⟩))

/-- The row of the result at an index of the tiles' array. -/
def rowAt (p : S32x4x128.Idx) : S16384.Idx :=
  fun | 0 => ⟨512 * (p 0).val + 128 * (p 1).val + (p 2).val, by
    have h0 : (p 0).val < 32 := (p 0).isLt
    have h1 : (p 1).val < 4 := (p 1).isLt
    have h2 : (p 2).val < 128 := (p 2).isLt
    show 512 * (p 0).val + 128 * (p 1).val + (p 2).val < 16384
    omega⟩

/-- The same words in the tiles' array. -/
def tiled : S32x4x128.Idx → Elt F .f32 := fun p => picked z a (rowAt p)

/-- The two arguments, flat. -/
def flatZ : S425984.Idx → Elt F .f32 := shapeCast S425984 z shapeCasts_S16384x26_S425984
def flatA : S2097152.Idx → Elt F .f32 := shapeCast S2097152 a shapeCasts_S16384x128_S2097152

theorem flatZ_at (r : Fin 16384) (p : S425984.Idx) (h : (p 0).val = 26 * r.val) : flatZ z p = z (fun | 0 => r | 1 => ⟨0, by decide⟩) := by
  unfold flatZ
  refine shapeCast_apply _ _ _ _ ?_
  rw [show (S425984.rowMajor p).val = (p 0).val from Shape.rowMajor_val_one (d := ![425984]) p]
  refine (Shape.rowMajor_val_two (d := ![16384, 26]) _).trans ?_
  show r.val * 26 + 0 = _
  omega

theorem flatA_at (r : Fin 16384) (k : Fin 128) (p : S2097152.Idx) (h : (p 0).val = 128 * r.val + k.val) : flatA a p = a (fun | 0 => r | 1 => k) := by
  unfold flatA
  refine shapeCast_apply _ _ _ _ ?_
  rw [show (S2097152.rowMajor p).val = (p 0).val from Shape.rowMajor_val_one (d := ![2097152]) p]
  refine (Shape.rowMajor_val_two (d := ![16384, 128]) _).trans ?_
  show r.val * 128 + k.val = _
  omega

/-- The tiles' array laid flat is the result. -/
theorem tiled_flat : shapeCast S16384 (tiled z a) shapeCasts_S32x4x128_S16384 = picked z a := by
  funext r
  have hr : (r 0).val < 16384 := (r 0).isLt
  let p : S32x4x128.Idx := fun
    | 0 => ⟨(r 0).val / 512, by show (r 0).val / 512 < 32; omega⟩
    | 1 => ⟨(r 0).val / 128 % 4, by show (r 0).val / 128 % 4 < 4; omega⟩
    | 2 => ⟨(r 0).val % 128, by show (r 0).val % 128 < 128; omega⟩
  have hp : rowAt p = r := funext fun x => by
    match x with
    | ⟨0, _⟩ =>
      refine Fin.ext ?_
      show 512 * ((r 0).val / 512) + 128 * ((r 0).val / 128 % 4) + (r 0).val % 128 = (r 0).val
      omega
  refine (shapeCast_apply _ _ _ p ?_).trans (congrArg (picked z a) hp)
  rw [show (S16384.rowMajor r).val = (r 0).val from Shape.rowMajor_val_one (d := ![16384]) r]
  refine (Shape.rowMajor_val_three (d := ![32, 4, 128]) p).trans ?_
  show ((r 0).val / 512 * 4 + (r 0).val / 128 % 4) * 128 + (r 0).val % 128 = (r 0).val
  omega

/-! ## What a tile leaves -/

variable (L : grid0.Coords)

/-- The tile's row `k`, of the 16384. -/
def tileRow (k : ℕ) (hk : k < 512) : Fin 16384 := ⟨512 * rank L + k, by have := rank_lt L; omega⟩

/-- The slots a tile fetches are its rows'. -/
theorem slotsOf_at (k : ℕ) (hk : k < 512) :
    slotsOf L (flatZ z) (slotIx k) = z (fun | 0 => tileRow L k hk | 1 => ⟨0, by decide⟩) := by
  refine flatZ_at z (tileRow L k hk) ((zRect L).emb (slotIx k)) ?_
  refine (Rect.emb_apply _ _ _).trans ?_
  show k0_off1 L 0 + 1 * (26 * (k % 512)) = 26 * (512 * rank L + k)
  rw [k0_off1_eq, Nat.mod_eq_of_lt hk]
  show 26624 * (L 1).val + 13312 * (L 0).val + 1 * (26 * k) = _
  unfold rank; omega

theorem slots_ok (hz : RowsOK z) : SlotsOK (slotsOf L (flatZ z)) := fun k => by
  have hk : k % 512 < 512 := Nat.mod_lt _ (by decide)
  have hs : slotIx k = slotIx (k % 512) := by unfold slotIx; simp only [Nat.mod_mod]
  rw [hs, slotsOf_at z L _ hk]
  exact hz _

/-- Word `x` of a tile's four rows is the result's word there. -/
theorem words_eq (hz : RowsOK z) (x : S4x128.Idx) : words L (flatZ z) (flatA a) x = picked z a (fun | 0 => tileRow L (pos x) (pos_lt x)) := by
  have hk := pos_lt x
  have hs := slotsOf_at z L (pos x) hk
  have hlt := slots_ok z L hz (pos x)
  have hw := offWord_toNat L (slotsOf L (flatZ z)) hk hlt
  rw [hs] at hw hlt
  unfold words scaled gathered picked
  congr 1
  refine flatA_at a (tileRow L (pos x) hk) _ _ ?_
  show (offWord L (slotsOf L (flatZ z)) (pos x)).toNat % 2097152 = 128 * (512 * rank L + pos x) + (slotWord z (tileRow L (pos x) hk)).toNat % 128
  have hb := rank_lt L
  have hv : (slotWord z (tileRow L (pos x) hk)).toNat < 128 := hz _
  have hw' : (offWord L (slotsOf L (flatZ z)) (pos x)).toNat = 128 * (baseRow L + pos x) + (slotWord z (tileRow L (pos x) hk)).toNat := hw
  have hbr : baseRow L = 512 * rank L := rfl
  rw [hw', hbr]; omega

/-- The rows a tile leaves are the result's. -/
theorem outWritten_eq (hz : RowsOK z) (fo : S32x4x128.Idx → Elt F .f32) (p : S32x4x128.Idx) (hp : p ∈ oSet L) :
    outWritten L (words L (flatZ z) (flatA a)) fo p = tiled z a p := by
  obtain ⟨x, -, rfl⟩ := Finset.mem_map.mp hp
  unfold outWritten
  refine (View.write_emb_of_mem _ _ (Finset.mem_univ x)).trans ?_
  rw [words_eq z a L hz x]
  show picked z a (fun | 0 => tileRow L (pos x) (pos_lt x)) = picked z a (rowAt ((outOf L oV).view.emb x))
  refine congrArg (picked z a) (funext fun b => ?_)
  match b with
  | ⟨0, _⟩ =>
    refine Fin.ext ?_
    have hm := Shape.rowMajor_reshapeEquiv squeezes_S1x4x128_S4x128.numel_eq x
    have hemb : (outOf L oV).view.emb x = (oRect L).emb (Shape.reshapeEquiv squeezes_S1x4x128_S4x128.numel_eq x) := rfl
    rw [hemb]
    generalize Shape.reshapeEquiv squeezes_S1x4x128_S4x128.numel_eq x = y at hm
    have h0 : (y 0).val < 1 := (y 0).isLt
    have hy : (S1x4x128.rowMajor y).val = ((y 0).val * 4 + (y 1).val) * 128 + (y 2).val := Shape.rowMajor_val_three (d := ![1, 4, 128]) y
    have hx : (S4x128.rowMajor x).val = (x 0).val * 128 + (x 1).val := Shape.rowMajor_val_two (d := ![4, 128]) x
    have e0 : ((oRect L).emb y 0).val = k0_off2 L 0 + 1 * (y 0).val := Rect.emb_apply _ _ _
    have e1 : ((oRect L).emb y 1).val = k0_off2 L 1 + 1 * (y 1).val := Rect.emb_apply _ _ _
    have e2 : ((oRect L).emb y 2).val = k0_off2 L 2 + 1 * (y 2).val := Rect.emb_apply _ _ _
    rw [k0_off2_eq] at e0 e1 e2
    have e0' : ((oRect L).emb y 0).val = 2 * (L 1).val + (L 0).val + 1 * (y 0).val := e0
    have e1' : ((oRect L).emb y 1).val = 0 + 1 * (y 1).val := e1
    have e2' : ((oRect L).emb y 2).val = 0 + 1 * (y 2).val := e2
    show 512 * rank L + pos x = 512 * ((oRect L).emb y 0).val + 128 * ((oRect L).emb y 1).val + ((oRect L).emb y 2).val
    rw [e0', e1', e2']
    unfold rank pos
    omega

end Cert.KernelIdeal.Tile

end
-- ==== Proof.KernelIdeal.Launch.lean ====
/-
  The kernel's whole program: what the call hands each tile and takes back, @main around it, and its run.
-/
module

public import proofs.«01_k».proof.Proof.KernelIdeal.Pieces

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the handshakes carry -/

/-- The two arguments at launch. -/
abbrev argZ (d : Dev nD) : S16384x26.Idx → Elt F .f32 := m ((SparseCore.T d).loc main_arg0)
abbrev argA (d : Dev nD) : S16384x128.Idx → Elt F .f32 := m ((SparseCore.T d).loc main_arg1)

/-- Every slot is in range, on every device. -/
def PreOK : Prop := ∀ d : Dev nD, RowsOK (argZ m d)

/-- A tile's rows of the slots, its share of the table and its rows of the result, these at `fo`. -/
abbrev piece (d : Dev nD) (L : grid0.Coords) (fo : S32x4x128.Idx → Elt F .f32) : sProp 𝕄 :=
  iprop((zLoc d ↦[zSet L]{fullShare} flatZ (argZ m d)) ∗ (aLoc d ↦{share L} flatA (argA m d)) ∗ (oLoc d ↦[oSet L]{fullShare} fo))

/-- The result's buffer at launch, and after the call. -/
abbrev outBefore (d : Dev nD) : S32x4x128.Idx → Elt F .f32 := m (oLoc d)
abbrev outAfter (d : Dev nD) : S32x4x128.Idx → Elt F .f32 := tiled (argZ m d) (argA m d)

/-- All sixteen tiles of SparseCore `c`. -/
abbrev pieces (d : Dev nD) (c : Fin 2) (fo : S32x4x128.Idx → Elt F .f32) : sProp 𝕄 :=
  bigSep Finset.univ fun s : Fin 16 => piece m d (coordsV c s) fo

/-- The call hands each SparseCore its tiles' pieces and takes them back, the result's rows written. -/
def P : (K (F := F)).Pay (nD := nD) (Val := Elt F) (Name := ℕ) (U := UU) where
  st := fun q d c => match q with | 0 => pieces m d (Fin.cast nCore_zero c) (outBefore m d)
  dn := fun q d c => match q with | 0 => pieces m d (Fin.cast nCore_zero c) (outAfter m d)
  go := fun q d c i => match q with | 0 => piece m d (coordsV (Fin.cast nCore_zero c) (Fin.cast nSub_zero i)) (outBefore m d)
  td := fun q d c i => match q with | 0 => piece m d (coordsV (Fin.cast nCore_zero c) (Fin.cast nSub_zero i)) (outAfter m d)
  x := fun _ _ => iprop(emp)

instance P_storable : (P (F := F) m).IsStorable where
  st q d c := match q with
    | 0 => (inferInstance : BI.Storable (upEmb : UEmb _ 𝕄) (pieces m d (Fin.cast nCore_zero c) (outBefore m d)))
  dn q d c := match q with
    | 0 => (inferInstance : BI.Storable (upEmb : UEmb _ 𝕄) (pieces m d (Fin.cast nCore_zero c) (outAfter m d)))
  go q d c i := match q with
    | 0 => (inferInstance : BI.Storable (upEmb : UEmb _ 𝕄) (piece m d (coordsV (Fin.cast nCore_zero c) (Fin.cast nSub_zero i)) (outBefore m d)))
  td q d c i := match q with
    | 0 => (inferInstance : BI.Storable (upEmb : UEmb _ 𝕄) (piece m d (coordsV (Fin.cast nCore_zero c) (Fin.cast nSub_zero i)) (outAfter m d)))

/-! ## The tile's obligation -/

theorem defs₀_vector (c : Fin τ.nSC) (s : Fin τ.nSub) :
    defs₀ (F := F) (.scVector c s) 0 ()
      = SparseCore.onTile hcore0 hsub0 (fun c s => cc0_sc_gather (coordsV c s)
          zV (Memref.isWhole_whole _) aV (Memref.isWhole_whole _) oV (Memref.isWhole_whole _)
          slotV (Memref.isWhole_whole _) idxV (Memref.isWhole_whole _) valV (Memref.isWhole_whole _) cc0_scratch3 cc0_scoped0 cc0_scoped1) ⟨⟩ c s := rfl

omit [FloatOps F] in
/-- What a tile returns, as the launch asks it: the waits it leaves are its own. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- A tile's program takes its piece and leaves it with the result's rows written. -/
theorem tile_piece (d : Dev nD) (L : grid0.Coords) (hF : (K (F := F)).Facts) (hpre : PreOK m) (O : CellTallies nD τ sig (HIx 1)) (W : Waits sig (HIx 1))
    (hO : ∀ g, O g none = 0) :
    iprop(levAts (K (F := F)).L (K (F := F)).lev ∗ emp ∗ piece m d L (outBefore m d) ∗ scopedBufs (tile d L) ∗ scopedSems0 (tile d L) ∗ owes (tile d L) O W)
      ⊢ (WP d L
          (cc0_sc_gather L zV (Memref.isWhole_whole _) aV (Memref.isWhole_whole _) oV (Memref.isWhole_whole _)
            slotV (Memref.isWhole_whole _) idxV (Memref.isWhole_whole _) valV (Memref.isWhole_whole _) cc0_scratch3 cc0_scoped0 cc0_scoped1)
          fun _ => iprop(piece m d L (outAfter m d) ∗ scopedBufs (tile d L) ∗ scopedSems0 (tile d L)
            ∗ ∃ W', ⌜∀ p ∈ W', p ∈ W ∨ p.2 = none⌝ ∗ owes (tile d L) O W') : sProp 𝕄) := by
  have h := tile_body d L hF (flatZ (argZ m d)) (flatA (argA m d)) (outBefore m d) (slots_ok _ L (hpre d)) (share L) O W hO
  have hw : (oLoc d ↦[oSet L]{fullShare} outWritten L (words L (flatZ (argZ m d)) (flatA (argA m d))) (outBefore m d) : sProp 𝕄)
      = oLoc d ↦[oSet L]{fullShare} outAfter m d :=
    pointsTo_congr fun p hp => outWritten_eq _ _ L (hpre d) _ p hp
  rw [hw] at h
  exact h

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_piece m d (coordsV ⟨_, hci.1⟩ ⟨_, hci.2⟩) hF hpre O W hO).trans (wp_mono frame _ _ fun _ => obl_post)

/-! ## A SparseCore's tiles, and the arrays' parts -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show pieces m d (Fin.cast nCore_zero c) (outBefore m d) ⊢ |={Set.univ}=> iprop(
      (bigSep Finset.univ fun i : Fin ((K (F := F)).nSub 0) => piece m d (coordsV (Fin.cast nCore_zero c) (Fin.cast nSub_zero i)) (outBefore m d))
      ∗ ((bigSep Finset.univ fun i : Fin ((K (F := F)).nSub 0) => piece m d (coordsV (Fin.cast nCore_zero c) (Fin.cast nSub_zero i)) (outAfter m d))
          -∗ pieces m d (Fin.cast nCore_zero c) (outAfter m d)))
  rw [bigSep_tasks (F := F) (fun i => piece m d (coordsV (Fin.cast nCore_zero c) i) (outBefore m d)),
    bigSep_tasks (F := F) (fun i => piece m d (coordsV (Fin.cast nCore_zero c) i) (outAfter m d))]
  iintro H; imodintro
  isplitl [H]; · iexact H
  iintro H; iexact H

/-- Both SparseCores' pieces are the three arrays whole. -/
theorem all_pieces (d : Dev nD) (fo : S32x4x128.Idx → Elt F .f32) :
    (bigSep Finset.univ fun c : Fin 2 => pieces m d c fo)
      = (iprop((zLoc d ↦{fullShare} flatZ (argZ m d)) ∗ (aLoc d ↦{fullShare} flatA (argA m d)) ∗ (oLoc d ↦{fullShare} fo)) : sProp 𝕄) := by
  rw [z_parts, a_shares, o_parts]
  simp only [pieces, piece, bigSep_sep']

theorem st0_eq (d : Dev nD) : (bigSep Finset.univ fun c : Fin ((K (F := F)).nCore 0) => (P m).st 0 d c)
    = iprop((zLoc d ↦{fullShare} flatZ (argZ m d)) ∗ (aLoc d ↦{fullShare} flatA (argA m d)) ∗ (oLoc d ↦{fullShare} outBefore m d)) :=
  all_pieces m d (outBefore m d)
theorem dn0_eq (d : Dev nD) : (bigSep Finset.univ fun c : Fin ((K (F := F)).nCore 0) => (P m).dn 0 d c)
    = iprop((zLoc d ↦{fullShare} flatZ (argZ m d)) ∗ (aLoc d ↦{fullShare} flatA (argA m d)) ∗ (oLoc d ↦{fullShare} outAfter m d)) :=
  all_pieces m d (outAfter m d)

/-! ## The launch element of the ghost state -/

def u₀ : UU := (initOf (K (F := F)).hsCells (K (F := F)).hsToks, 1)

omit [FloatOps F] in
/-- Nothing, however often. -/
theorem no_pieces {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [no_pieces]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), no_pieces]
  iempintro

/-! ## @main on the TensorCore -/

abbrev rArgZ : DevRef τ sig := Proc.devRef .tc (main_arg0 : Ref sig .tc)
abbrev rArgA : DevRef τ sig := Proc.devRef .tc (main_arg1 : Ref sig .tc)
abbrev rZ : DevRef τ sig := Proc.devRef .tc (main_v0 : Ref sig .tc)
abbrev rA : DevRef τ sig := Proc.devRef .tc (main_v1 : Ref sig .tc)
abbrev rO : DevRef τ sig := Proc.devRef .tc (main_v2 : Ref sig .tc)
abbrev rR : DevRef τ sig := Proc.devRef .tc (main_v3 : Ref sig .tc)

abbrev opZ : HloOp τ sig (Elt F) := StableHlo.reshape main_arg0 main_v0 (rfl : (.f32 : EltTy) = .f32) shapeCasts_S16384x26_S425984
abbrev opA : HloOp τ sig (Elt F) := StableHlo.reshape main_arg1 main_v1 (rfl : (.f32 : EltTy) = .f32) shapeCasts_S16384x128_S2097152
abbrev opR : HloOp τ sig (Elt F) := StableHlo.reshape main_v2 main_v3 (rfl : (.f32 : EltTy) = .f32) shapeCasts_S32x4x128_S16384

/-- The TensorCore's arrays. -/
abbrev arrays : Finset (DevRef τ sig) := {rArgZ, rArgA, rZ, rA, rO, rR}

/-- The six arrays one by one. -/
def sixPts (d : Dev nD) (z : S16384x26.Idx → Elt F .f32) (a : S16384x128.Idx → Elt F .f32) (fz : S425984.Idx → Elt F .f32) (fa : S2097152.Idx → Elt F .f32)
    (fo : S32x4x128.Idx → Elt F .f32) (r : S16384.Idx → Elt F .f32) : sProp 𝕄 :=
  iprop(((SparseCore.T d).loc main_arg0 ↦{fullShare} z) ∗ ((SparseCore.T d).loc main_arg1 ↦{fullShare} a) ∗ (zLoc d ↦{fullShare} fz) ∗ (aLoc d ↦{fullShare} fa)
    ∗ (oLoc d ↦{fullShare} fo) ∗ (SparseCore.T d).loc main_v3 ↦{fullShare} r)

theorem held_arrays (d : Dev nD) (W : Valuation τ sig (Elt F)) :
    (held (T d) arrays W : sProp 𝕄) = sixPts d (W rArgZ) (W rArgA) (W rZ) (W rA) (W rO) (W rR) := by
  unfold held arrays
  rw [SparseCore.bigSep_insert' (by decide), SparseCore.bigSep_insert' (by decide), SparseCore.bigSep_insert' (by decide),
    SparseCore.bigSep_insert' (by decide), SparseCore.bigSep_insert' (by decide), bigSep_singleton]
  rfl

/-- The arrays at launch; once the arguments are flat; once the call has returned; at the end. -/
def V0 (d : Dev nD) : Valuation τ sig (Elt F) := fun b => m (d, b)
abbrev V1 (d : Dev nD) : Valuation τ sig (Elt F) := (opZ (F := F)).result (V0 m d)
abbrev V2 (d : Dev nD) : Valuation τ sig (Elt F) := (opA (F := F)).result (V1 m d)
def V3 (d : Dev nD) : Valuation τ sig (Elt F) := Function.update (V2 m d) rO (outAfter m d)
abbrev V4 (d : Dev nD) : Valuation τ sig (Elt F) := (opR (F := F)).result (V3 m d)

theorem unscoped_held (d : Dev nD) : (unscopedBufs d (fun b => m ((SparseCore.T d).loc b)) : sProp 𝕄) = held (T d) arrays (V0 m d) := by
  rw [held_arrays]
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]
  rfl

theorem V2_at (d : Dev nD) : V2 m d rArgZ = argZ m d ∧ V2 m d rArgA = argA m d ∧ V2 m d rZ = flatZ (argZ m d) ∧ V2 m d rA = flatA (argA m d)
    ∧ V2 m d rO = outBefore m d := by
  have hne {r : Ref sig .tc} (hz : r ≠ main_v0) (ha : r ≠ main_v1) : V2 m d (Proc.devRef .tc r) = m (d, Proc.devRef .tc r) :=
    (reshape_result_ne _ _ _ _ _ _ _ ha).trans (reshape_result_ne _ _ _ _ _ _ _ hz)
  refine ⟨hne (by decide) (by decide), hne (by decide) (by decide), ?_, ?_, hne (by decide) (by decide)⟩
  · exact (reshape_result_ne _ _ _ _ _ _ _ (by decide)).trans (reshape_result _ _ _ _ _ _ _)
  · refine (reshape_result _ _ _ _ _ _ _).trans ?_
    show shapeCast S2097152 (V1 m d rArgA) shapeCasts_S16384x128_S2097152 = _
    rw [show V1 m d rArgA = argA m d from reshape_result_ne _ _ _ _ _ _ _ (by decide)]
    rfl

theorem held_V2 (d : Dev nD) : (held (T d) arrays (V2 m d) : sProp 𝕄)
    = sixPts d (argZ m d) (argA m d) (flatZ (argZ m d)) (flatA (argA m d)) (outBefore m d) (V2 m d rR) := by
  obtain ⟨h0, h1, h2, h3, h4⟩ := V2_at m d
  rw [held_arrays, h0, h1, h2, h3, h4]

theorem held_V3 (d : Dev nD) : (held (T d) arrays (V3 m d) : sProp 𝕄)
    = sixPts d (argZ m d) (argA m d) (flatZ (argZ m d)) (flatA (argA m d)) (outAfter m d) (V2 m d rR) := by
  obtain ⟨h0, h1, h2, h3, -⟩ := V2_at m d
  have hne {b : DevRef τ sig} (h : b ≠ rO) : V3 m d b = V2 m d b := Function.update_of_ne h _ _
  rw [held_arrays, hne (show rArgZ ≠ rO by decide), hne (show rArgA ≠ rO by decide), hne (show rZ ≠ rO by decide), hne (show rA ≠ rO by decide),
    hne (show rR ≠ rO by decide), h0, h1, h2, h3, show V3 m d rO = outAfter m d from Function.update_self _ _ _]

theorem held_V4 (d : Dev nD) : (held (T d) arrays (V4 m d) : sProp 𝕄)
    = sixPts d (argZ m d) (argA m d) (flatZ (argZ m d)) (flatA (argA m d)) (outAfter m d) (picked (argZ m d) (argA m d)) := by
  have h := held_arrays d (V3 m d)
  rw [held_V3] at h
  have hne {r : Ref sig .tc} (hr : r ≠ main_v3) : V4 m d (Proc.devRef .tc r) = V3 m d (Proc.devRef .tc r) := reshape_result_ne _ _ _ _ _ _ _ hr
  obtain ⟨h0, h1, h2, h3, -⟩ := V2_at m d
  have hne' {b : DevRef τ sig} (h : b ≠ rO) : V3 m d b = V2 m d b := Function.update_of_ne h _ _
  have hO : V3 m d rO = outAfter m d := Function.update_self _ _ _
  rw [held_arrays, hne (show main_arg0 ≠ main_v3 by decide), hne (show main_arg1 ≠ main_v3 by decide), hne (show main_v0 ≠ main_v3 by decide),
    hne (show main_v1 ≠ main_v3 by decide), hne (show main_v2 ≠ main_v3 by decide), hO,
    hne' (show rArgZ ≠ rO by decide), hne' (show rArgA ≠ rO by decide), hne' (show rZ ≠ rO by decide), hne' (show rA ≠ rO by decide), h0, h1, h2, h3]
  congr 1
  refine (reshape_result _ _ _ _ _ _ _).trans ?_
  show shapeCast S16384 (V3 m d rO) shapeCasts_S32x4x128_S16384 = _
  rw [hO]
  exact tiled_flat _ _

theorem hopZ : (opZ (F := F)).bufs ⊆ arrays := show ({rArgZ, rZ} : Finset (DevRef τ sig)) ⊆ arrays by decide
theorem hopA : (opA (F := F)).bufs ⊆ arrays := show ({rArgA, rA} : Finset (DevRef τ sig)) ⊆ arrays by decide
theorem hopR : (opR (F := F)).bufs ⊆ arrays := show ({rO, rR} : Finset (DevRef τ sig)) ⊆ arrays by decide

/-- What @main leaves: the arguments as at launch, the result at the picked words. -/
abbrev FIN (d : Dev nD) : sProp 𝕄 :=
  iprop(((SparseCore.T d).loc main_arg0 ↦{fullShare} argZ m d) ∗ ((SparseCore.T d).loc main_arg1 ↦{fullShare} argA m d)
    ∗ (SparseCore.T d).loc main_v3 ↦{fullShare} (picked (argZ m d) (argA m d) : S16384.Idx → Elt F .f32))

/-- @main on device `d`'s TensorCore: the arguments laid flat, the call on the three flat arrays, its result laid flat. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opZ) (S := arrays) hopZ (V := V0 m d)) $$ [Hb Hheld]
  · isplitl [Hb] <;> iassumption
  iintro ⟨Hb, Hheld⟩
  rw [wp_ret]; imodintro
  iapply (wp_hlo_within 𝒱 (SparseCore.T d) none Set.univ (op := opA) (S := arrays) hopA (V := V1 m d)) $$ [Hb Hheld]
  · isplitl [Hb] <;> iassumption
  iintro ⟨Hb, Hheld⟩
  rw [wp_ret]; imodintro
  ihave Hh := (Entails.of_eq (held_V2 (F := F) m d)) $$ Hheld
  unfold sixPts
  icases Hh with ⟨Hz, Ha, Hfz, Hfa, Hfo, Hr⟩
  iapply ((K (F := F)).wp_run (D (F := F)) 𝒱 (EH := EH) (P := P m) κ d 0) $$ [Hst Hz Ha Hfz Hfa Hfo Hr Hb Hts]
  isplitr; · iexact Hctx
  isplitl [Hst]; · iexact Hst
  isplitl [Hfz Hfa Hfo]
  · rw [st0_eq]
    isplitl [Hfz]; · iexact Hfz
    isplitl [Hfa]; · iexact Hfa
    iexact Hfo
  iintro ⟨Hst, Hdn⟩
  ihave Hdn' := (Entails.of_eq (dn0_eq m d)) $$ Hdn
  icases Hdn' with ⟨Hfz, Hfa, Hfo⟩
  iapply (wp_hlo_within 𝒱 (SparseCore.T d) none Set.univ (op := opR) (S := arrays) hopR (V := V3 m d)) $$ [Hb Hz Ha Hfz Hfa Hfo Hr]
  · isplitl [Hb]; · iexact Hb
    rw [held_V3]; unfold sixPts
    isplitl [Hz]; · iexact Hz
    isplitl [Ha]; · iexact Ha
    isplitl [Hfz]; · iexact Hfz
    isplitl [Hfa]; · iexact Hfa
    isplitl [Hfo]; · iexact Hfo
    iexact Hr
  iintro ⟨Hb, Hheld⟩
  ihave Hh := (Entails.of_eq (held_V4 (F := F) m d)) $$ Hheld
  unfold sixPts
  icases Hh with ⟨Hz, Ha, -, -, -, Hr⟩
  rw [wp_ret]; imodintro; imodintro
  isplitl [Hst]; · iexact Hst
  isplitr [Hb Hts]
  · isplitl [Hz]; · iexact Hz
    isplitl [Ha]; · iexact Ha
    iexact Hr
  isplitl [Hb] <;> iassumption

/-! ## The run -/

/-- What the claims read of a device's final state. -/
def fq (d : Dev nD) (s' : Phys nD τ sig (Elt F)) : Prop :=
  s'.mem.mem ((SparseCore.T d).loc main_v3) = picked (argZ m d) (argA m d)
    ∧ s'.mem.mem ((SparseCore.T d).loc main_arg0) = argZ m d ∧ s'.mem.mem ((SparseCore.T d).loc main_arg1) = argA m d

set_option maxRecDepth 16384 in
theorem hfin (d : Dev nD) (s' : Phys nD τ sig (Elt F)) : iprop(FIN m d ∗ SI s') ⊢ (⌜fq m d s'⌝ : sProp 𝕄) := by
  have agree (ℓ : Loc nD τ sig) (f : Buf (Elt F) ℓ) :
      iprop(SI s' ∗ (ℓ ↦{fullShare} f)) ⊢ (iprop(⌜s'.mem.mem ℓ = f⌝ ∗ SI s') : sProp 𝕄) := by
    iintro ⟨HSI, Hp⟩
    ihave H := (persistent_entails_right (SI_pointsTo_agree (st := s') (ℓ := ℓ) (I := Finset.univ) (q := fullShare) (f := f))) $$ [HSI Hp]
    · isplitl [HSI] <;> iassumption
    icases H with ⟨%h, HSI, -⟩
    isplitr
    · ipureintro; exact funext fun i => h i (Finset.mem_univ i)
    · iexact HSI
  iintro ⟨⟨Hz, Ha, Hr⟩, HSI⟩
  ihave H := (agree _ _) $$ [HSI Hz]
  · isplitl [HSI] <;> iassumption
  icases H with ⟨%hz, HSI⟩
  ihave H := (agree _ _) $$ [HSI Ha]
  · isplitl [HSI] <;> iassumption
  icases H with ⟨%ha, HSI⟩
  ihave H := (agree _ _) $$ [HSI Hr]
  · isplitl [HSI] <;> iassumption
  icases H with ⟨%hr, -⟩
  ipureintro; exact ⟨hr, hz, ha⟩

def QC : PUnit × MemSt nD τ sig (Elt F) → Prop := fun r =>
  (∀ c : Dev nD, r.2.mem ((SparseCore.T c).loc main_v3) = picked (argZ m c) (argA m c)
    ∧ r.2.mem ((SparseCore.T c).loc main_arg0) = argZ m c ∧ r.2.mem ((SparseCore.T c).loc main_arg1) = argA m c) ∧ r.2.sem = fun _ => 0

/-- The program runs from any launch memory whose slots are in range: the result ends at the picked words, the arguments
    unchanged, every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Tile

end
-- ==== Proof.Slots.lean ====
/-
  The precondition read, and the two frame claims of the kernel.
-/
module

public import proofs.«01_k».proof.Proof.KernelIdeal.Launch
public import proofs.«01_k».proof.Proof.Gen.Kernel
public import proofs.«01_k».proof.Proof.Gen.Pre_slots_in_range
public import Idealize.ShloMosaic.Lib.ReduceAll

@[expose] public section

noncomputable section

namespace Cert.Slots

open Idealize.ShloMosaic Idealize.SL.Sem
open Cert.KernelIdeal (S16384x26 S16384x128)
open Cert.KernelIdeal.Tile (slotWord RowsOK PreOK run_main)

/-- A word that is neither negative nor 128 or more, compared as signed words, is below 128. -/
theorem lt_of_checks (v : BitVec 32) (h : IntOp.andi (IntOp.cmpi .sge v 0#32) (IntOp.cmpi .slt v 128#32) = 1#1) : v.toNat < 128 := by
  have hb : ∀ p q : Bool, IntOp.andi (BitVec.ofBool p) (BitVec.ofBool q) = 1#1 → p = true ∧ q = true := by decide
  have h' := hb _ _ h
  simp only [BitVec.sle_eq_decide, BitVec.slt_eq_decide, decide_eq_true_eq, BitVec.toInt_eq_toNat_cond, BitVec.toNat_ofNat, Nat.reducePow, Nat.reduceMod] at h'
  omega

variable {F : FTy → Type} [FloatOps F]

instance : Subsingleton Cert.Pre_slots_in_range.S_.Idx := ⟨fun _ _ => funext fun a => a.elim0⟩

/-- The precondition puts every row's slot among the table's 128 columns. -/
theorem rows_ok [Cert.Pre_slots_in_range.Facts] (z : S16384x26.Idx → Elt F .f32) (a : S16384x128.Idx → Elt F .f32)
    (h : Cert.Pre_slots_in_range.fn (F := F) z a = fun _ => 1#1) : RowsOK z := by
  intro r
  let i1 : Cert.Pre_slots_in_range.S16384.Idx := fun | 0 => r
  let i2 : Cert.Pre_slots_in_range.S16384x1.Idx := fun | 0 => r | 1 => ⟨0, Nat.one_pos⟩
  have e := Host.reduce_andi_all _ _ _ _ _ (congrFun h (fun a => a.elim0)) i1
  have hs : shapeCast Cert.Pre_slots_in_range.S16384 (extractStridedSlice Cert.Pre_slots_in_range.S16384x1 ![0, 0] z Cert.Pre_slots_in_range.Facts.slices_S16384x26_S16384x1_0_0)
      Cert.Pre_slots_in_range.Facts.shapeCasts_S16384x1_S16384 i1 = z (fun | 0 => r | 1 => ⟨0, by decide⟩) := by
    refine (shapeCast_apply _ _ _ i2 ?_).trans (congrArg z (funext fun a => Fin.ext ?_))
    · refine (Shape.rowMajor_val_two (d := ![16384, 1]) i2).trans (Eq.trans ?_ (Shape.rowMajor_val_one (d := ![16384]) i1).symm)
      show r.val * 1 + 0 = r.val
      omega
    · match a with
      | ⟨0, _⟩ => exact Nat.zero_add _
      | ⟨1, _⟩ => rfl
  refine lt_of_checks _ (Eq.trans ?_ e)
  exact congrArg (fun y => IntOp.andi (IntOp.cmpi .sge (FloatOps.fptosi (φ := .f32) 32 y : BitVec 32) 0#32) (IntOp.cmpi .slt (FloatOps.fptosi (φ := .f32) 32 y) 128#32)) hs.symm

/-- `Cert.quiescent_KernelIdeal` (Defs.lean): the kernel at the ideal instance runs, its arguments unchanged. -/
theorem frame_ideal : Cert.quiescent_KernelIdeal := fun m ρ hpre =>
  (θ_run Cert.KernelIdeal.defs _ _).mono (fun _ h => ⟨fun c => (h.1 c).2, h.2⟩) (run_main (F := Ideal) m ρ fun d => rows_ok _ _ (hpre d))

/-- `Cert.quiescent_Kernel` (Defs.lean): the kernel as printed runs, its arguments unchanged. Its text is the idealized
    one's, so the run is the same theorem at the machine's floats. -/
theorem frame_bits : Cert.quiescent_Kernel := fun m ρ hpre =>
  (θ_run Cert.KernelIdeal.defs _ _).mono (fun _ h => ⟨fun c => (h.1 c).2, h.2⟩) (run_main (F := Bits) m ρ fun d => rows_ok _ _ (hpre d))

end Cert.Slots

end
-- ==== Proof.Reference.lean ====
/-
  The reference's result, row by row: the table's entry at the row's slot, scaled. The reference scatters the scale
  into a table of zeros at (row, slot), multiplies the argument by it and sums each row, so one term of each sum
  is left. Then the reference's frame claim and the value claim.
-/
module

public import proofs.«01_k».proof.Proof.Slots
public import proofs.«01_k».proof.Proof.Gen.ReferenceIdeal.Run
public import Idealize.ShloMosaic.Lib.Routing.OpsSet
public import Idealize.ShloMosaic.Lib.Routing.OpsPair
public import Idealize.ShloMosaic.Lib.IdealHost
public import Idealize.ShloMosaic.Lib.Pipeline.Value

@[expose] public section

noncomputable section

namespace Cert.Ref

open Idealize.ShloMosaic Idealize.SL.Sem Idealize.ShloMosaic.ValueIdx
open Cert.ReferenceIdeal Cert.ReferenceIdeal.Gen
open Cert.KernelIdeal.Tile (slotWord RowsOK PreOK picked argZ argA run_main)

/-- The scatter's dimension numbers: one pair of index words (row, column) for each update, no window. -/
abbrev sd : ScatterDims S16384x128 S16384x2 S16384 := scatter_S16384x128_S16384x2_S16384_n_01_01_1

/-- The index of a row in a vector of rows. -/
abbrev ixRow (r : Fin 16384) : S16384.Idx := fun | 0 => r

/-- The index of word `q` of row `r`'s pair. -/
abbrev ixWord (r : Fin 16384) (q : Fin 2) : S16384x2.Idx := fun | 0 => r | 1 => q

/-- The index of a row in a one-column matrix of rows. -/
abbrev ixCol (r : Fin 16384) : S16384x1.Idx := fun | 0 => r | 1 => ⟨0, Nat.one_pos⟩

/-- The index of the table's entry at row `r`, column `c`. -/
abbrev ixAt (r : Fin 16384) (c : Fin 128) : S16384x128.Idx := fun | 0 => r | 1 => c

/-- Every vector index is the one of a row. -/
theorem row_eta (k : S16384.Idx) : ∃ r : Fin 16384, k = ixRow r := ⟨k 0, funext fun | 0 => rfl⟩

/-- Update `k` starts, on operand axis `q`, at word `q` of its pair, read signed. -/
theorem start_word (k : Fin 16384) (idx : IVec S16384x2 32) (q : Fin 2) : sd.start (ixRow k) idx q = (idx (ixWord k q)).toInt := by
  have hm : q ∈ sd.scatterDimsToOperandDims := by fin_cases q <;> decide
  unfold ScatterDims.start
  rw [dif_pos hm]
  refine congrArg (fun i => (idx i).toInt) (funext fun b => Fin.ext ?_)
  match b with
  | ⟨0, _⟩ => fin_cases q <;> rfl
  | ⟨1, _⟩ => fin_cases q <;> rfl

/-- No update has a window coordinate: both operand axes are inserted. -/
theorem window_none (k : Fin 16384) (q : Fin 2) : sd.window (ixRow k) q = 0 := by
  fin_cases q <;> rfl

/-- Update `k` lands at `(r, c)` exactly when its pair of words, read signed, is `(r, c)`. -/
theorem lands_iff (k : Fin 16384) (idx : IVec S16384x2 32) (r : Fin 16384) (c : Fin 128) :
    sd.resultIdx? (ixRow k) idx = some (ixAt r c) ↔ (idx (ixWord k 0)).toInt = r.val ∧ (idx (ixWord k 1)).toInt = c.val := by
  rw [Routing.resultIdx?_eq_some]
  refine ⟨fun h => ?_, fun h q => ?_⟩
  · have h0 := h 0
    have h1 := h 1
    rw [start_word, window_none] at h0 h1
    exact ⟨(Int.add_zero _).symm.trans h0, (Int.add_zero _).symm.trans h1⟩
  · have e : sd.start (ixRow k) idx q + (sd.window (ixRow k) q : Int) = (idx (ixWord k q)).toInt := by
      rw [start_word, window_none]; exact Int.add_zero _
    rw [e]
    match q with
    | ⟨0, _⟩ => exact h.1
    | ⟨1, _⟩ => exact h.2

/-- The slots as the reference computes them: the argument's column 0 as words. -/
abbrev slots (z : S16384x26.Idx → Elt Ideal .f32) : IVec S16384 32 :=
  fptosi (F := Ideal) (φ := .f32) 32 (shapeCast S16384 (extractStridedSlice S16384x1 ![0, 0] z slices_S16384x26_S16384x1_0_0) shapeCasts_S16384x1_S16384)

/-- A vector of words with the negative ones raised by `n`. -/
abbrev wrapped (n : BitVec 32) (x : IVec S16384 32) : IVec S16384 32 :=
  select (cmpi .slt x (broadcastInDim S16384 ![] bcast_S_S16384 (constantI S_ 32 0#32))) (addi x (broadcastInDim S16384 ![] bcast_S_S16384 (constantI S_ 32 n))) x

/-- The pairs of words the reference scatters at: row number, slot. -/
abbrev pairs (z : S16384x26.Idx → Elt Ideal .f32) : IVec S16384x2 32 :=
  concatenate S16384x2 1 [⟨S16384x1, broadcastInDim S16384x1 ![0] bcast_S16384_S16384x1_0 (wrapped 16384#32 (iotaInDim S16384 32 0))⟩,
    ⟨S16384x1, broadcastInDim S16384x1 ![0] bcast_S16384_S16384x1_0 (wrapped 128#32 (slots z))⟩] concatenates_S16384x1_S16384x1_S16384x2_d1

/-- The reference's slot of row `r` is the kernel's. -/
theorem slots_apply (z : S16384x26.Idx → Elt Ideal .f32) (r : Fin 16384) : slots z (ixRow r) = slotWord z r := by
  have hs : shapeCast S16384 (extractStridedSlice S16384x1 ![0, 0] z slices_S16384x26_S16384x1_0_0) shapeCasts_S16384x1_S16384 (ixRow r)
      = z (fun | 0 => r | 1 => ⟨0, by decide⟩) := by
    refine (shapeCast_apply _ _ _ (ixCol r) ?_).trans (congrArg z (funext fun a => Fin.ext ?_))
    · refine (Shape.rowMajor_val_two (d := ![16384, 1]) (ixCol r)).trans (Eq.trans ?_ (Shape.rowMajor_val_one (d := ![16384]) (ixRow r)).symm)
      show r.val * 1 + 0 = r.val
      omega
    · match a with
      | ⟨0, _⟩ => exact Nat.zero_add _
      | ⟨1, _⟩ => rfl
  exact congrArg (fun y => (FloatOps.fptosi (F := Ideal) (φ := .f32) 32 y : BitVec 32)) hs

/-- A word below 2³¹ is left by the wrap. -/
theorem wrapped_apply (n : BitVec 32) (x : IVec S16384 32) (r : Fin 16384) (h : (x (ixRow r)).toNat < 2 ^ 31) : wrapped n x (ixRow r) = x (ixRow r) :=
  Routing.wrap_of_lt (x (ixRow r)) (x (ixRow r) + n) h

/-- A vector stood up as a column reads, at row `r`, the vector's entry `r`. -/
theorem column_apply (x : IVec S16384 32) (r : Fin 16384) :
    broadcastInDim S16384x1 ![0] bcast_S16384_S16384x1_0 x (ixCol r) = x (ixRow r) :=
  broadcastInDim_apply _ _ x (ixCol r) (ixRow r) fun | 0 => rfl

/-- The first word of row `r`'s pair is `r`. -/
theorem pairs_row (z : S16384x26.Idx → Elt Ideal .f32) (r : Fin 16384) : (pairs z (ixWord r 0)).toInt = r.val := by
  have hn : (iotaInDim S16384 32 0 (ixRow r)).toNat = r.val := by
    show (BitVec.ofNat 32 r.val).toNat = r.val
    have := r.isLt
    rw [BitVec.toNat_ofNat]; omega
  have e : pairs z (ixWord r 0) = iotaInDim S16384 32 0 (ixRow r) := by
    refine (concatenate_pair_apply_left (t := S16384x2) (s₁ := S16384x1) (s₂ := S16384x1) 1 _ _ _ (ixWord r 0) rfl (ixCol r) fun b => ?_).trans
      ((column_apply _ r).trans (wrapped_apply _ _ r ?_))
    · match b with
      | ⟨0, _⟩ => rfl
      | ⟨1, _⟩ => rfl
    · have := r.isLt
      omega
  have := r.isLt
  rw [e, BitVec.toInt_eq_toNat_cond, hn]
  omega

/-- The second word of row `r`'s pair is the row's slot. -/
theorem pairs_slot (z : S16384x26.Idx → Elt Ideal .f32) (hz : RowsOK z) (r : Fin 16384) : (pairs z (ixWord r 1)).toInt = (slotWord z r).toNat := by
  have hr := hz r
  have e : pairs z (ixWord r 1) = slotWord z r := by
    refine (concatenate_pair_apply_right (t := S16384x2) (s₁ := S16384x1) (s₂ := S16384x1) 1 _ _ _ (ixWord r 1) rfl rfl (ixCol r) (fun b hb => ?_) rfl).trans
      ((column_apply _ r).trans ((wrapped_apply _ _ r ?_).trans (slots_apply z r)))
    · match b, hb with
      | ⟨0, _⟩, _ => rfl
      | ⟨1, _⟩, hb => exact (hb rfl).elim
    · rw [slots_apply]; omega
  rw [e, BitVec.toInt_eq_toNat_cond]
  omega

/-- The scale, as the ideal value of its word. -/
abbrev scale : EReal := Ideal.ofBits .f32 0x3F7FBE77#32

/-- The table the reference multiplies by: zeros with the scale set at every row's slot. -/
abbrev weights (z : S16384x26.Idx → Elt Ideal .f32) : FVec Ideal S16384x128 .f32 :=
  Host.scatter sd (fun _ b => b) (broadcastInDim S16384x128 ![] bcast_S_S16384x128 (constant (F := Ideal) S_ .f32 0x00000000#32)) (pairs z)
    (broadcastInDim S16384 ![] bcast_S_S16384 (constant (F := Ideal) S_ .f32 0x3F7FBE77#32))

/-- At the row's slot the weight is the scale. -/
theorem weights_slot (z : S16384x26.Idx → Elt Ideal .f32) (hz : RowsOK z) (r : Fin 16384) (c : Fin 128) (h : c.val = (slotWord z r).toNat) :
    weights z (ixAt r c) = scale :=
  Routing.scatter_set_hit sd _ _ _ (ixAt r c) scale (fun _ _ => rfl) (ixRow r)
    ((lands_iff r _ r c).2 ⟨pairs_row z r, (pairs_slot z hz r).trans (congrArg Nat.cast h.symm)⟩)

/-- Off the row's slot the weight is zero. -/
theorem weights_other (z : S16384x26.Idx → Elt Ideal .f32) (hz : RowsOK z) (r : Fin 16384) (c : Fin 128) (h : c.val ≠ (slotWord z r).toNat) :
    weights z (ixAt r c) = (0 : EReal) := by
  refine (Routing.scatter_set_miss sd _ _ _ (ixAt r c) fun k hk => h ?_).trans Ideal.ofBits_zero_f32
  obtain ⟨k', rfl⟩ := row_eta k
  rw [lands_iff, pairs_row, pairs_slot z hz] at hk
  have hkr : k' = r := Fin.ext (by exact_mod_cast hk.1)
  rw [← hkr]
  exact_mod_cast hk.2.symm

/-- The host's sum over the columns, read at a row: the sum of the row's entries. -/
theorem row_sum (x : FVec Ideal S16384x128 .f32) (r : Fin 16384) :
    Host.reduceAdd (F := Ideal) (φ := .f32) x (constant S_ .f32 0x00000000#32) reducesTo_S16384x128_S16384_d1 h_S_ (ixRow r) = ∑ c : Fin 128, (x (ixAt r c) : EReal) := by
  have hred : S16384x128.Reduces [1] S16384 := by decide
  have hl : ∀ c : Fin 128, hred.lift (ixRow r) c = ixAt r c := fun c => funext fun b => Fin.ext (by
    match b with
    | ⟨0, _⟩ => rfl
    | ⟨1, _⟩ => rfl)
  rw [hostReduceAdd_apply, Ideal.hostReduceAdd_single _ hred]
  refine (congrArg₂ (· + ·) Ideal.ofBits_zero_f32 (Finset.sum_congr rfl fun c _ => congrArg x (hl c))).trans (zero_add _)

/-- The reference's result: every row's sum is its table entry at the slot, scaled. -/
theorem value (z : S16384x26.Idx → Elt Ideal .f32) (a : S16384x128.Idx → Elt Ideal .f32) (hz : RowsOK z) :
    Host.reduceAdd (F := Ideal) (φ := .f32) (mulf a (weights z)) (constant S_ .f32 0x00000000#32) reducesTo_S16384x128_S16384_d1 h_S_ = picked z a := by
  refine funext fun j => ?_
  obtain ⟨r, rfl⟩ := row_eta j
  have hr := hz r
  let s : Fin 128 := ⟨(slotWord z r).toNat % 128, Nat.mod_lt _ (by decide)⟩
  have hs : s.val = (slotWord z r).toNat := Nat.mod_eq_of_lt hr
  have hterm : ∀ c : Fin 128, (mulf a (weights z) (ixAt r c) : EReal) = a (ixAt r c) * weights z (ixAt r c) := fun c => mulf_apply _ _ _
  refine (row_sum _ r).trans ((Finset.sum_eq_single s (fun c _ hc => ?_) fun h => (h (Finset.mem_univ _)).elim).trans ?_)
  · rw [hterm, weights_other z hz r c fun e => hc (Fin.ext (e.trans hs.symm)), mul_zero]
  · rw [hterm, weights_slot z hz r s hs]
    rfl

/-- `Cert.quiescent_ReferenceIdeal` (Defs.lean): the reference runs, its arguments unchanged; it has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.quiescent_ReferenceIdeal_pre_slots_in_range` (Defs.lean): the same under the kernel's precondition. -/
theorem frame_ref_pre : Cert.quiescent_ReferenceIdeal_pre_slots_in_range := fun m ρ _ => frame_ref m ρ trivial

/-- `Cert.algebraic_KernelIdeal_ReferenceIdeal` (Defs.lean): kernel and reference both end with `picked` of the arguments. -/
theorem algebraic : Cert.algebraic_KernelIdeal_ReferenceIdeal := by
  intro m ρ m' ρ' hpre hagree
  have hok : PreOK m := fun d => Cert.Slots.rows_ok _ _ (hpre d)
  refine ⟨fun c => picked (argZ m c) (argA m c), (θ_run Cert.KernelIdeal.defs _ _).mono (fun _ h c => h.1 c) (run_main (F := Ideal) m ρ hok), ?_⟩
  refine (θ_run Cert.ReferenceIdeal.defs _ _).mono (fun r h c => ⟨((h c).1).trans ?_, (h c).2⟩) (Cert.ReferenceIdeal.Value.run (F := Ideal) m' ρ')
  rw [(hagree c).1, (hagree c).2]
  exact value (argZ m c) (argA m c) (hok c)

end Cert.Ref

end
-- ==== Proof.lean ====
/-
  The certificate: the kernel as printed and the idealized kernel run with their arguments unchanged, so does the
  reference, and the idealized kernel's result is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_slots_in_range
public import proofs.«01_k».proof.Proof.Reference
public import Idealize.ShloMosaic.Adequacy
public import Idealize.ShloMosaic.Init

@[expose] public section

noncomputable section

namespace Cert.Proof

open Idealize.ShloMosaic Idealize.SL.Sem Cert.Kernel

/-- Every claim of the certificate holds. -/
theorem claim : Cert.Claim := ⟨Cert.Kernel.Gen.facts, Cert.KernelIdeal.Gen.facts, Cert.ReferenceIdeal.Gen.facts, Cert.Pre_slots_in_range.Gen.facts,
  Cert.Slots.frame_bits, Cert.Slots.frame_ideal, Cert.Ref.frame_ref, Cert.Ref.frame_ref_pre, trivial, Cert.Ref.algebraic⟩

end Cert.Proof

end
